-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.Statement Cert.KernelIdeal.S16x512 Cert.KernelIdeal.S8x512
  ∧ IdealRules.bf16_pack.Statement Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x1280 : Shape := ⟨3, ![3, 640, 1280]⟩
abbrev S5120x5x110 : Shape := ⟨3, ![5120, 5, 110]⟩
abbrev S5x110x5120 : Shape := ⟨3, ![5, 110, 5120]⟩
abbrev S1920x1280 : Shape := ⟨2, ![1920, 1280]⟩
abbrev S1920x5120 : Shape := ⟨2, ![1920, 5120]⟩
abbrev S5x110x512 : Shape := ⟨3, ![5, 110, 512]⟩
abbrev S1920x512 : Shape := ⟨2, ![1920, 512]⟩
abbrev S1280x512 : Shape := ⟨2, ![1280, 512]⟩
abbrev S16x512 : Shape := ⟨2, ![16, 512]⟩
abbrev S1x14x512 : Shape := ⟨3, ![1, 14, 512]⟩
abbrev S14x512 : Shape := ⟨2, ![14, 512]⟩
abbrev S8x512 : Shape := ⟨2, ![8, 512]⟩
abbrev S4x512 : Shape := ⟨2, ![4, 512]⟩
abbrev S1x512 : Shape := ⟨2, ![1, 512]⟩
abbrev S1x32x512 : Shape := ⟨3, ![1, 32, 512]⟩
abbrev S32x512 : Shape := ⟨2, ![32, 512]⟩

abbrev nBuf : Space → Nat
  | .hbm => 5
  | .vmem => 7
  | .smem => 0
  | _ => 0

abbrev bufTy : (tb : Table) → Fin (tcTables nBuf tb) → BufTy
  | .hbm, ⟨0, _⟩ => ⟨S3x640x1280, .bf16⟩
  | .hbm, ⟨1, _⟩ => ⟨S5120x5x110, .i8⟩
  | .hbm, ⟨2, _⟩ => ⟨S5x110x5120, .i8⟩
  | .hbm, ⟨3, _⟩ => ⟨S1920x1280, .bf16⟩
  | .hbm, ⟨4, _⟩ => ⟨S1920x5120, .bf16⟩
  | .local _ .vmem, ⟨0, _⟩ => ⟨S1920x1280, .bf16⟩
  | .local _ .vmem, ⟨1, _⟩ => ⟨S5x110x512, .i8⟩
  | .local _ .vmem, ⟨2, _⟩ => ⟨S5x110x512, .i8⟩
  | .local _ .vmem, ⟨3, _⟩ => ⟨S1920x512, .bf16⟩
  | .local _ .vmem, ⟨4, _⟩ => ⟨S1920x512, .bf16⟩
  | .local _ .vmem, ⟨5, _⟩ => ⟨S1280x512, .bf16⟩
  | .local _ .vmem, ⟨6, _⟩ => ⟨S16x512, .f32⟩
  | _, _ => ⟨S3x640x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5x110x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1920x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F]
-- ==== ReferenceIdeal.lean ====
abbrev S3x640x1280 : Shape := ⟨3, ![3, 640, 1280]⟩
abbrev S5120x5x110 : Shape := ⟨3, ![5120, 5, 110]⟩
abbrev S5120x5x32 : Shape := ⟨3, ![5120, 5, 32]⟩
abbrev S5120x5x64 : Shape := ⟨3, ![5120, 5, 64]⟩
abbrev S5120x5x2x1x32 : Shape := ⟨5, ![5120, 5, 2, 1, 32]⟩
abbrev S5120x5x12 : Shape := ⟨3, ![5120, 5, 12]⟩
abbrev S5120x5x1 : Shape := ⟨3, ![5120, 5, 1]⟩
abbrev S_ : Shape := ⟨0, ![]⟩
abbrev S5120x5x8 : Shape := ⟨3, ![5120, 5, 8]⟩
abbrev S5120x5x1x8 : Shape := ⟨4, ![5120, 5, 1, 8]⟩
abbrev S5120x5x4 : Shape := ⟨3, ![5120, 5, 4]⟩
abbrev S5120x5x1x4 : Shape := ⟨4, ![5120, 5, 1, 4]⟩
abbrev S2 : Shape := ⟨1, ![2]⟩
abbrev S2x1 : Shape := ⟨2, ![2, 1]⟩
abbrev S1x1x2x1 : Shape := ⟨4, ![1, 1, 2, 1]⟩
abbrev S5120x5x2x8 : Shape := ⟨4, ![5120, 5, 2, 8]⟩
abbrev S5120x5x16 : Shape := ⟨3, ![5120, 5, 16]⟩
abbrev S4 : Shape := ⟨1, ![4]⟩
abbrev S4x1 : Shape := ⟨2, ![4, 1]⟩
abbrev S1x1x4x1 : Shape := ⟨4, ![1, 1, 4, 1]⟩
abbrev S5120x5x4x4 : Shape := ⟨4, ![5120, 5, 4, 4]⟩
abbrev S2x1x1 : Shape := ⟨3, ![2, 1, 1]⟩
abbrev S1x1x1x4x1 : Shape := ⟨5, ![1, 1, 1, 4, 1]⟩
abbrev S5120x5x2x4x32 : Shape := ⟨5, ![5120, 5, 2, 4, 32]⟩
abbrev S5120x5x1x1x32 : Shape := ⟨5, ![5120, 5, 1, 1, 32]⟩
abbrev S1x4x1 : Shape := ⟨3, ![1, 4, 1]⟩
abbrev S2x4x1 : Shape := ⟨3, ![2, 4, 1]⟩
abbrev S1x1x2x4x1 : Shape := ⟨5, ![1, 1, 2, 4, 1]⟩
abbrev S5120x5x16x16 : Shape := ⟨4, ![5120, 5, 16, 16]⟩
abbrev S5120x5x16x1 : Shape := ⟨4, ![5120, 5, 16, 1]⟩
abbrev S5120x1280 : Shape := ⟨2, ![5120, 1280]⟩
abbrev S3x640x5120 : Shape := ⟨3, ![3, 640, 5120]⟩
abbrev S1920x5120 : Shape := ⟨2, ![1920, 5120]⟩

abbrev nBuf : Space → Nat
  | .hbm => 157
  | .vmem => 0
  | .smem => 0
  | _ => 0

abbrev hbmTy0_0 (i : Nat) : BufTy := match i % 128 with
  | 0 => ⟨S3x640x1280, .bf16⟩
  | 1 => ⟨S5120x5x110, .i8⟩
  | 2 => ⟨S5120x5x110, .i32⟩
  | 3 => ⟨S5120x5x32, .i32⟩
  | 4 => ⟨S5120x5x64, .i32⟩
  | 5 => ⟨S5120x5x2x1x32, .i32⟩
  | 6 => ⟨S5120x5x12, .i32⟩
  | 7 => ⟨S5120x5x1, .i32⟩
  | 8 => ⟨S5120x5x1, .i32⟩
  | 9 => ⟨S_, .i32⟩
  | 10 => ⟨S5120x5x1, .i32⟩
  | 11 => ⟨S5120x5x1, .i32⟩
  | 12 => ⟨S5120x5x1, .i32⟩
  | 13 => ⟨S_, .i32⟩
  | 14 => ⟨S5120x5x1, .i32⟩
  | 15 => ⟨S5120x5x1, .i32⟩
  | 16 => ⟨S_, .i32⟩
  | 17 => ⟨S5120x5x1, .i32⟩
  | 18 => ⟨S5120x5x1, .i1⟩
  | 19 => ⟨S_, .f32⟩
  | 20 => ⟨S_, .f32⟩
  | 21 => ⟨S5120x5x1, .f32⟩
  | 22 => ⟨S5120x5x1, .f32⟩
  | 23 => ⟨S5120x5x1, .f32⟩
  | 24 => ⟨S_, .i32⟩
  | 25 => ⟨S5120x5x1, .i32⟩
  | 26 => ⟨S5120x5x1, .i32⟩
  | 27 => ⟨S_, .i32⟩
  | 28 => ⟨S5120x5x1, .i32⟩
  | 29 => ⟨S5120x5x1, .i32⟩
  | 30 => ⟨S_, .i32⟩
  | 31 => ⟨S5120x5x1, .i32⟩
  | 32 => ⟨S5120x5x1, .i32⟩
  | 33 => ⟨S_, .i32⟩
  | 34 => ⟨S5120x5x1, .i32⟩
  | 35 => ⟨S5120x5x1, .i32⟩
  | 36 => ⟨S5120x5x1, .f32⟩
  | 37 => ⟨S_, .i32⟩
  | 38 => ⟨S5120x5x1, .i32⟩
  | 39 => ⟨S5120x5x1, .i32⟩
  | 40 => ⟨S5120x5x1, .f32⟩
  | 41 => ⟨S5120x5x1, .f32⟩
  | 42 => ⟨S_, .f32⟩
  | 43 => ⟨S5120x5x1, .f32⟩
  | 44 => ⟨S5120x5x1, .f32⟩
  | 45 => ⟨S5120x5x1, .f32⟩
  | 46 => ⟨S_, .f32⟩
  | 47 => ⟨S5120x5x1, .f32⟩
  | 48 => ⟨S5120x5x1, .f32⟩
  | 49 => ⟨S_, .i32⟩
  | 50 => ⟨S5120x5x1, .i32⟩
  | 51 => ⟨S5120x5x1, .i1⟩
  | 52 => ⟨S5120x5x1, .f32⟩
  | 53 => ⟨S_, .i32⟩
  | 54 => ⟨S5120x5x1, .i32⟩
  | 55 => ⟨S5120x5x1, .i1⟩
  | 56 => ⟨S_, .f32⟩
  | 57 => ⟨S5120x5x1, .f32⟩
  | 58 => ⟨S5120x5x1, .f32⟩
  | 59 => ⟨S5120x5x1, .f32⟩
  | 60 => ⟨S5120x5x1, .f32⟩
  | 61 => ⟨S_, .i32⟩
  | 62 => ⟨S5120x5x1, .i32⟩
  | 63 => ⟨S5120x5x1, .i1⟩
  | 64 => ⟨S_, .i32⟩
  | 65 => ⟨S5120x5x1, .i32⟩
  | 66 => ⟨S5120x5x1, .i1⟩
  | 67 => ⟨S5120x5x1, .i1⟩
  | 68 => ⟨S_, .f32⟩
  | 69 => ⟨S5120x5x1, .f32⟩
  | 70 => ⟨S5120x5x1, .f32⟩
  | 71 => ⟨S5120x5x8, .i32⟩
  | 72 => ⟨S5120x5x1x8, .i32⟩
  | 73 => ⟨S5120x5x4, .i32⟩
  | 74 => ⟨S5120x5x1x4, .i32⟩
  | 75 => ⟨S2, .i32⟩
  | 76 => ⟨S_, .i32⟩
  | 77 => ⟨S2, .i32⟩
  | 78 => ⟨S2, .i32⟩
  | 79 => ⟨S2x1, .i32⟩
  | 80 => ⟨S1x1x2x1, .i32⟩
  | 81 => ⟨S5120x5x2x8, .i32⟩
  | 82 => ⟨S5120x5x2x8, .i32⟩
  | 83 => ⟨S5120x5x2x8, .i32⟩
  | 84 => ⟨S_, .i32⟩
  | 85 => ⟨S5120x5x2x8, .i32⟩
  | 86 => ⟨S5120x5x2x8, .i32⟩
  | 87 => ⟨S5120x5x16, .i32⟩
  | 88 => ⟨S4, .i32⟩
  | 89 => ⟨S_, .i32⟩
  | 90 => ⟨S4, .i32⟩
  | 91 => ⟨S4, .i32⟩
  | 92 => ⟨S4x1, .i32⟩
  | 93 => ⟨S1x1x4x1, .i32⟩
  | 94 => ⟨S5120x5x4x4, .i32⟩
  | 95 => ⟨S5120x5x4x4, .i32⟩
  | 96 => ⟨S5120x5x4x4, .i32⟩
  | 97 => ⟨S_, .i32⟩
  | 98 => ⟨S5120x5x4x4, .i32⟩
  | 99 => ⟨S5120x5x4x4, .i32⟩
  | 100 => ⟨S5120x5x16, .i32⟩
  | 101 => ⟨S_, .i32⟩
  | 102 => ⟨S5120x5x16, .i32⟩
  | 103 => ⟨S5120x5x16, .i32⟩
  | 104 => ⟨S5120x5x16, .i32⟩
  | 105 => ⟨S_, .i32⟩
  | 106 => ⟨S5120x5x16, .i32⟩
  | 107 => ⟨S5120x5x16, .i32⟩
  | 108 => ⟨S5120x5x16, .f32⟩
  | 109 => ⟨S5120x5x16, .f32⟩
  | 110 => ⟨S5120x5x16, .f32⟩
  | 111 => ⟨S5120x5x16, .bf16⟩
  | 112 => ⟨S4, .i32⟩
  | 113 => ⟨S4x1, .i32⟩
  | 114 => ⟨S2, .i32⟩
  | 115 => ⟨S2x1x1, .i32⟩
  | 116 => ⟨S_, .i32⟩
  | 117 => ⟨S4x1, .i32⟩
  | 118 => ⟨S4x1, .i32⟩
  | 119 => ⟨S1x1x1x4x1, .i32⟩
  | 120 => ⟨S5120x5x2x4x32, .i32⟩
  | 121 => ⟨S5120x5x2x4x32, .i32⟩
  | 122 => ⟨S5120x5x2x4x32, .i32⟩
  | 123 => ⟨S_, .i32⟩
  | 124 => ⟨S5120x5x2x4x32, .i32⟩
  | 125 => ⟨S5120x5x2x4x32, .i32⟩
  | 126 => ⟨S5120x5x1x1x32, .i32⟩
  | 127 => ⟨S_, .i32⟩
  | _ => ⟨S3x640x1280, .bf16⟩

abbrev hbmTy0_1 (i : Nat) : BufTy := match i % 128 with
  | 0 => ⟨S2x1x1, .i32⟩
  | 1 => ⟨S2x1x1, .i32⟩
  | 2 => ⟨S1x4x1, .i32⟩
  | 3 => ⟨S2x4x1, .i32⟩
  | 4 => ⟨S2x4x1, .i32⟩
  | 5 => ⟨S2x4x1, .i32⟩
  | 6 => ⟨S1x1x2x4x1, .i32⟩
  | 7 => ⟨S5120x5x2x4x32, .i32⟩
  | 8 => ⟨S5120x5x2x4x32, .i32⟩
  | 9 => ⟨S5120x5x2x4x32, .i32⟩
  | 10 => ⟨S_, .i32⟩
  | 11 => ⟨S5120x5x2x4x32, .i32⟩
  | 12 => ⟨S5120x5x2x4x32, .i32⟩
  | 13 => ⟨S_, .i32⟩
  | 14 => ⟨S5120x5x2x4x32, .i32⟩
  | 15 => ⟨S5120x5x2x4x32, .i32⟩
  | 16 => ⟨S5120x5x2x4x32, .i32⟩
  | 17 => ⟨S_, .i32⟩
  | 18 => ⟨S5120x5x2x4x32, .i32⟩
  | 19 => ⟨S5120x5x2x4x32, .i32⟩
  | 20 => ⟨S5120x5x2x4x32, .bf16⟩
  | 21 => ⟨S5120x5x16x16, .bf16⟩
  | 22 => ⟨S5120x5x16x1, .bf16⟩
  | 23 => ⟨S5120x5x16x16, .bf16⟩
  | 24 => ⟨S5120x5x16x16, .bf16⟩
  | 25 => ⟨S5120x1280, .bf16⟩
  | 26 => ⟨S3x640x5120, .f32⟩
  | 27 => ⟨S3x640x5120, .bf16⟩
  | 28 => ⟨S1920x5120, .bf16⟩
  | _ => ⟨S3x640x1280, .bf16⟩

abbrev hbmTy (i : Nat) : BufTy := match i / 128 with
  | 0 => hbmTy0_0 i
  | 1 => hbmTy0_1 i
  | _ => ⟨S3x640x1280, .bf16⟩

abbrev bufTy : (tb : Table) → Fin (tcTables nBuf tb) → BufTy
  | .hbm, ⟨i, _⟩ => hbmTy i
  | _, _ => ⟨S3x640x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_c_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_call2_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_13 : Ref sig .tc := ⟨.hbm, 61, rfl⟩
abbrev main_v41 : Ref sig .tc := ⟨.hbm, 62, rfl⟩
abbrev main_v42 : Ref sig .tc := ⟨.hbm, 63, rfl⟩
abbrev main_c_14 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_15 : Ref sig .tc := ⟨.hbm, 68, rfl⟩
abbrev main_call3_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_19 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_21 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_22 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_23 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_24 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_c_25 : Ref sig .tc := ⟨.hbm, 138, rfl⟩
abbrev main_v105 : Ref sig .tc := ⟨.hbm, 139, rfl⟩
abbrev main_v106 : Ref sig .tc := ⟨.hbm, 140, rfl⟩
abbrev main_c_26 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩

abbrev nD : Nat := 1
abbrev τ : Topo := Topo.v7x

variable {F : FTy → Type} [FloatOps F]
-- ==== Proof.Bytes.lean ====
/- The bytes of a 32-bit word: four rows of bytes read as one row of words, shifted and masked as words, are the bytes
   shifted and masked one by one, as long as the mask keeps no bit that crossed a byte's edge. -/
module

public import Idealize.ShloMosaic.Lib.BitcastFour
public import Idealize.ShloMosaic.Lib.ValueIdxCore
public import Idealize.ShloMosaic.PureOps.Float
public import Idealize.ShloMosaic.PureOps.Vector

@[expose] public section

set_option maxRecDepth 16384

noncomputable section

namespace Cert.Bytes

open Idealize.ShloMosaic Idealize.ShloMosaic.ValueIdx

/-- `R` rows of `n` bytes. -/
abbrev Rows (R n : Nat) : Shape := ⟨2, ![R, n]⟩

variable {R r n : Nat}

/-- Words read as bytes: bit `i` of byte row `p` is bit `8 (p mod 4) + i` of word row `p / 4`. -/
theorem bytes_getLsbD (w : (Rows r n).Idx → BitVec 32) (h : (Rows r n).Bitcasts 32 (Rows R n) 8) (p : Fin R) (l : Fin n)
    (a : Fin r) (ha : a.val = p.val / 4) (i : Nat) (hi : i < 8) :
    (bitcast (Rows R n) 8 w h (ix2 p l)).getLsbD i = (w (ix2 a l)).getLsbD (8 * (p.val % 4) + i) := by
  rw [bitcast_getLsbD w h _ i hi (by decide)]
  have hrow : (Rows R n).row (ix2 p l) = p.val := rfl
  have e1 : ((Rows R n).row (ix2 p l) * 8 + i) / 32 = a.val := by rw [hrow, ha]; omega
  have e2 : ((Rows R n).row (ix2 p l) * 8 + i) % 32 = 8 * (p.val % 4) + i := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Joining words joins their bytes. -/
theorem bytes_ori (u w : IVec (Rows r n) 32) (h : (Rows r n).Bitcasts 32 (Rows R n) 8) (p : Fin R) (l : Fin n)
    (a : Fin r) (ha : a.val = p.val / 4) :
    bitcast (Rows R n) 8 (ori u w) h (ix2 p l)
      = bitcast (Rows R n) 8 u h (ix2 p l) ||| bitcast (Rows R n) 8 w h (ix2 p l) := by
  apply BitVec.eq_of_getLsbD_eq
  intro i hi
  rw [BitVec.getLsbD_or, bytes_getLsbD _ h p l a ha i hi, bytes_getLsbD _ h p l a ha i hi, bytes_getLsbD _ h p l a ha i hi]
  exact BitVec.getLsbD_or

/-- A 32-bit mask that repeats the 8-bit mask `b` in each byte. -/
def Repeats (m : BitVec 32) (b : BitVec 8) : Prop := ∀ k < 4, ∀ i < 8, m.getLsbD (8 * k + i) = b.getLsbD i

instance (m : BitVec 32) (b : BitVec 8) : Decidable (Repeats m b) := by unfold Repeats; infer_instance

/-- Bytes read as words, shifted right by `s` and masked: each byte shifted right and masked, when the byte's mask keeps
    only bits that come from the same byte. -/
theorem bytes_shr (x : IVec (Rows R n) 8) (h : (Rows R n).Bitcasts 8 (Rows r n) 32) (h' : (Rows r n).Bitcasts 32 (Rows R n) 8)
    (s m : BitVec 32) (b : BitVec 8) (hm : Repeats m b) (hs : s.toNat < 32) (hb : ∀ i < 8, b.getLsbD i = true → s.toNat + i < 8)
    (p : Fin R) (l : Fin n) (a : Fin r) (ha : a.val = p.val / 4) :
    bitcast (Rows R n) 8 (andi (shrsi (bitcast (Rows r n) 32 x h) (broadcast (Rows r n) s)) (broadcast (Rows r n) m)) h' (ix2 p l)
      = (x (ix2 p l) >>> s.toNat) &&& b := by
  apply BitVec.eq_of_getLsbD_eq
  intro i hi
  rw [bytes_getLsbD _ h' p l a ha i hi]
  show (IntOp.andi (IntOp.shrsi .vector (bitcast (Rows r n) 32 x h (ix2 a l)) s) m).getLsbD _ = _
  unfold IntOp.andi IntOp.shrsi
  rw [if_pos hs, BitVec.getLsbD_and, BitVec.getLsbD_and, hm _ (by omega) i hi, BitVec.getLsbD_ushiftRight]
  by_cases hbi : b.getLsbD i = true
  · have := hb i hi hbi
    rw [hbi, Bool.and_true, Bool.and_true]
    show (BitVec.sshiftRight _ s.toNat).getLsbD _ = _
    rw [BitVec.getLsbD_sshiftRight]
    have h1 : ¬ 32 ≤ 8 * (p.val % 4) + i := by omega
    have h2 : s.toNat + (8 * (p.val % 4) + i) < 32 := by omega
    rw [if_pos h2, decide_eq_false h1, Bool.not_false, Bool.true_and,
      bitcast_8_32_getLsbD_ix2 x h a l _ h2 p (by omega)]
    congr 1
    omega
  · rw [Bool.not_eq_true] at hbi
    rw [hbi, Bool.and_false, Bool.and_false]

/-- Bytes read as words, shifted left by `s` and masked, likewise. -/
theorem bytes_shl (x : IVec (Rows R n) 8) (h : (Rows R n).Bitcasts 8 (Rows r n) 32) (h' : (Rows r n).Bitcasts 32 (Rows R n) 8)
    (s m : BitVec 32) (b : BitVec 8) (hm : Repeats m b) (hs : s.toNat < 32) (hb : ∀ i < 8, b.getLsbD i = true → s.toNat ≤ i)
    (p : Fin R) (l : Fin n) (a : Fin r) (ha : a.val = p.val / 4) :
    bitcast (Rows R n) 8 (andi (shli (bitcast (Rows r n) 32 x h) (broadcast (Rows r n) s)) (broadcast (Rows r n) m)) h' (ix2 p l)
      = (x (ix2 p l) <<< s.toNat) &&& b := by
  apply BitVec.eq_of_getLsbD_eq
  intro i hi
  rw [bytes_getLsbD _ h' p l a ha i hi]
  show (IntOp.andi (IntOp.shli .vector (bitcast (Rows r n) 32 x h (ix2 a l)) s) m).getLsbD _ = _
  unfold IntOp.andi IntOp.shli
  rw [if_pos hs, BitVec.getLsbD_and, BitVec.getLsbD_and, hm _ (by omega) i hi, BitVec.getLsbD_shiftLeft]
  by_cases hbi : b.getLsbD i = true
  · have := hb i hi hbi
    rw [hbi, Bool.and_true, Bool.and_true]
    rw [BitVec.shiftLeft_eq', BitVec.getLsbD_shiftLeft]
    have h1 : 8 * (p.val % 4) + i < 32 := by omega
    have h2 : ¬ 8 * (p.val % 4) + i < s.toNat := by omega
    have h3 : ¬ i < s.toNat := by omega
    rw [decide_eq_true h1, decide_eq_false h2, decide_eq_true hi, decide_eq_false h3, Bool.not_false, Bool.true_and, Bool.true_and,
      bitcast_8_32_getLsbD_ix2 x h a l _ (by omega) p (by omega)]
    simp only [Bool.true_and]
    congr 1
    omega
  · rw [Bool.not_eq_true] at hbi
    rw [hbi, Bool.and_false, Bool.and_false]

end Cert.Bytes

end
-- ==== Proof.Half.lean ====
/- A 16-bit float's value from its two bytes, and the two ways it is read: by moving its fields to those of a 32-bit
   float, and by the formula over its sign, exponent and fraction. -/
module

public import Idealize.ShloMosaic.PureOps.Ideal
public import Idealize.ShloMosaic.PureOps.Vector
public import Idealize.ShloMosaic.Lib.IdealHost
public import Mathlib.Data.Nat.Bitwise

@[expose] public section

set_option maxRecDepth 16384

noncomputable section

namespace Cert.Half

open Idealize.ShloMosaic

/-- The value of sign `s`, exponent `e` and fraction `f` with `eb` exponent bits and `mb` fraction bits. -/
def value (eb mb s e f : ℕ) : EReal :=
  if e = 2 ^ eb - 1 then (if f = 0 then (if s = 1 then ⊥ else ⊤) else ⊥)
  else if e = 0 then ((((if s = 1 then -1 else 1) * f * (2 : ℝ) ^ (1 - (2 ^ (eb - 1) - 1) - mb : ℤ) : ℝ)) : EReal)
  else ((((if s = 1 then -1 else 1) * (2 ^ mb + f : ℕ) * (2 : ℝ) ^ ((e : ℤ) - (2 ^ (eb - 1) - 1) - mb) : ℝ)) : EReal)

/-- A pattern's value from its fields. -/
theorem ieee_eq (eb mb : ℕ) {w : ℕ} (b : BitVec w) (s e f : ℕ) (hs : s < 2) (he : e < 2 ^ eb) (hf : f < 2 ^ mb)
    (h : b.toNat = s * 2 ^ (eb + mb) + e * 2 ^ mb + f) : Ideal.ieee eb mb b = value eb mb s e f := by
  have hF : (b.extractLsb' 0 mb).toNat = f := by
    rw [BitVec.extractLsb'_toNat, Nat.shiftRight_zero, h, pow_add, ← mul_assoc, ← add_mul, Nat.mul_add_mod_of_lt hf]
  have hE : (b.extractLsb' mb eb).toNat = e := by
    rw [BitVec.extractLsb'_toNat, Nat.shiftRight_eq_div_pow, h, pow_add, ← mul_assoc, ← add_mul]
    rw [show (s * 2 ^ eb + e) * 2 ^ mb + f = f + 2 ^ mb * (s * 2 ^ eb + e) by ring, Nat.add_mul_div_left _ _ (by positivity),
      Nat.div_eq_of_lt hf, zero_add, Nat.mul_add_mod_of_lt he]
  have hS : (b.extractLsb' (eb + mb) 1).toNat = s := by
    have : e * 2 ^ mb + f < 2 ^ (eb + mb) := by
      calc e * 2 ^ mb + f < e * 2 ^ mb + 2 ^ mb := by omega
        _ = (e + 1) * 2 ^ mb := by ring
        _ ≤ 2 ^ eb * 2 ^ mb := Nat.mul_le_mul_right _ he
        _ = _ := by rw [pow_add]
    rw [BitVec.extractLsb'_toNat, Nat.shiftRight_eq_div_pow, h]
    rw [show s * 2 ^ (eb + mb) + e * 2 ^ mb + f = (e * 2 ^ mb + f) + 2 ^ (eb + mb) * s by ring, Nat.add_mul_div_left _ _ (by positivity),
      Nat.div_eq_of_lt this, zero_add, pow_one, Nat.mod_eq_of_lt hs]
  have hB : (b.extractLsb' (eb + mb) 1 == 1#1) = decide (s = 1) := by
    rw [Bool.eq_iff_iff, beq_iff_eq, decide_eq_true_eq, ← hS]
    exact ⟨fun h => by rw [h]; rfl, fun h => BitVec.eq_of_toNat_eq h⟩
  unfold Ideal.ieee value
  simp only [hF, hE, hB, decide_eq_true_eq]

/-- The 16-bit float of the low byte `lo` and the high byte `hi`. -/
def half (lo hi : BitVec 8) : EReal := Ideal.ofBits .f16 (hi ++ lo)

/-- The two bytes as one number. -/
def num (lo hi : BitVec 8) : ℕ := lo.toNat + 256 * hi.toNat

theorem num_lt (lo hi : BitVec 8) : num lo hi < 65536 := by unfold num; omega

theorem half_eq (lo hi : BitVec 8) :
    half lo hi = value 5 10 (num lo hi / 32768) (num lo hi / 1024 % 32) (num lo hi % 1024) := by
  have hn := num_lt lo hi
  refine ieee_eq 5 10 _ _ _ _ (by omega) (by omega) (by omega) ?_
  have : (hi ++ lo).toNat = num lo hi := by
    rw [BitVec.toNat_append, Nat.shiftLeft_eq, mul_comm, ← Nat.two_pow_add_eq_or_of_lt lo.isLt]
    unfold num; omega
  rw [this]; omega

/-! ## The fields of the word -/

section
variable {w : BitVec 32} {v : ℕ} (hw : w.toNat = v) (hv : v < 65536)
include hw

theorem toNat_and_sign : (IntOp.andi w 32768#32).toNat = v / 32768 % 2 * 32768 := by
  unfold IntOp.andi
  rw [BitVec.toNat_and, hw, show (32768#32 : BitVec 32).toNat = 2 ^ 15 from rfl, Nat.and_two_pow, Nat.testBit_eq_decide_div_mod_eq]
  rw [show (2 : ℕ) ^ 15 = 32768 from rfl]
  rcases Nat.mod_two_eq_zero_or_one (v / 32768) with h | h <;> rw [h] <;> rfl

/-- A mask of the `n` low bits. -/
theorem toNat_and_low (m : BitVec 32) (n : ℕ) (hm : m.toNat = 2 ^ n - 1) : (IntOp.andi w m).toNat = v % 2 ^ n := by
  unfold IntOp.andi
  rw [BitVec.toNat_and, hw, hm, Nat.and_two_pow_sub_one_eq_mod]

include hv in
theorem toNat_shrsi (u : ArithUnit) (k : ℕ) (hk : k < 32) : (IntOp.shrsi u w (BitVec.ofNat 32 k)).toNat = v / 2 ^ k := by
  have hk' : (BitVec.ofNat 32 k).toNat = k := by rw [BitVec.toNat_ofNat]; omega
  unfold IntOp.shrsi
  rw [hk', if_pos hk, BitVec.sshiftRight', hk', BitVec.sshiftRight_eq_of_msb_false (by rw [BitVec.msb_eq_decide]; simp; omega),
    BitVec.toNat_ushiftRight, hw, Nat.shiftRight_eq_div_pow]

theorem toNat_shli (u : ArithUnit) (k : ℕ) (hk : k < 32) (hlt : v * 2 ^ k < 2 ^ 32) :
    (IntOp.shli u w (BitVec.ofNat 32 k)).toNat = v * 2 ^ k := by
  have hk' : (BitVec.ofNat 32 k).toNat = k := by rw [BitVec.toNat_ofNat]; omega
  unfold IntOp.shli
  rw [hk', if_pos hk, BitVec.shiftLeft_eq', hk', BitVec.toNat_shiftLeft, hw, Nat.shiftLeft_eq, Nat.mod_eq_of_lt hlt]

include hv in
theorem toInt_eq : w.toInt = (v : ℤ) := by
  rw [BitVec.toInt_eq_toNat_of_lt (by omega), hw]

theorem select_eq {α : Type} (u : BitVec 32) (a b : α) :
    Scalar.select (IntOp.cmpi .eq w u) a b = if v = u.toNat then a else b := by
  unfold Scalar.select IntOp.cmpi
  have : (w == u) = decide (v = u.toNat) := by
    rw [Bool.eq_iff_iff, beq_iff_eq, decide_eq_true_eq, ← hw]
    exact ⟨fun h => by rw [h], fun h => BitVec.eq_of_toNat_eq h⟩
  rw [this]
  by_cases h : v = u.toNat <;> simp [h]

theorem select_ne {α : Type} (u : BitVec 32) (a b : α) :
    Scalar.select (IntOp.cmpi .ne w u) a b = if v = u.toNat then b else a := by
  unfold Scalar.select IntOp.cmpi
  have : (w != u) = !decide (v = u.toNat) := by
    rw [bne, Bool.not_inj_iff, Bool.eq_iff_iff, beq_iff_eq, decide_eq_true_eq, ← hw]
    exact ⟨fun h => by rw [h], fun h => BitVec.eq_of_toNat_eq h⟩
  rw [this]
  by_cases h : v = u.toNat <;> simp [h]

end

/-- A multiple of `2 ^ k` or-ed to a number below it. -/
theorem toNat_or_below {a b : BitVec 32} {s m k : ℕ} (ha : a.toNat = s * 2 ^ k) (hb : b.toNat = m) (hm : m < 2 ^ k) :
    (IntOp.ori a b).toNat = s * 2 ^ k + m := by
  unfold IntOp.ori
  rw [BitVec.toNat_or, ha, hb, mul_comm s, ← Nat.two_pow_add_eq_or_of_lt hm]

theorem ori_comm {w : ℕ} (a b : BitVec w) : IntOp.ori a b = IntOp.ori b a := BitVec.or_comm a b

/-- A byte widened. -/
theorem toNat_byte (b : BitVec 8) : (b.setWidth 32).toNat = b.toNat := by
  rw [BitVec.toNat_setWidth, Nat.mod_eq_of_lt (by omega)]

/-- The word of the two bytes, as both programs make it. -/
theorem toNat_word (u : ArithUnit) (lo hi : BitVec 8) :
    (IntOp.ori (lo.setWidth 32) (IntOp.shli u (hi.setWidth 32) 8#32)).toNat = num lo hi := by
  rw [ori_comm, toNat_or_below (k := 8) (toNat_shli (toNat_byte hi) u 8 (by decide) (by omega)) (toNat_byte lo) lo.isLt]
  unfold num; omega

/-- The exponent 31 re-based to 255, the fraction kept. -/
theorem toNat_or_inf {a : BitVec 32} {f : ℕ} (ha : a.toNat = 31 * 2 ^ 23 + f) (hf : f < 2 ^ 23) :
    (IntOp.ori a 2139095040#32).toNat = 255 * 2 ^ 23 + f := by
  unfold IntOp.ori
  rw [BitVec.toNat_or, ha, mul_comm 31, Nat.two_pow_add_eq_or_of_lt hf, Nat.or_right_comm,
    show 2 ^ 23 * 31 ||| (2139095040#32 : BitVec 32).toNat = 2 ^ 23 * 255 by decide, ← Nat.two_pow_add_eq_or_of_lt hf, mul_comm]

theorem value_zero (s f : ℕ) : value 5 10 s 0 f = ((((if s = 1 then -1 else 1) * f * (2 : ℝ) ^ (-24 : ℤ) : ℝ)) : EReal) := by
  unfold value
  rw [if_neg (by decide), if_pos rfl]
  norm_num

theorem value_inf {eb mb s e f : ℕ} (h : e = 2 ^ eb - 1) : value eb mb s e f = if f = 0 then (if s = 1 then ⊥ else ⊤) else ⊥ := by
  unfold value
  rw [if_pos h]

theorem value_normal (s e f : ℕ) (h0 : e ≠ 0) (h31 : e ≠ 31) :
    value 5 10 s e f = ((((if s = 1 then -1 else 1) * (1024 + f : ℕ) * (2 : ℝ) ^ e * (2 : ℝ) ^ (-25 : ℤ) : ℝ)) : EReal) := by
  unfold value
  have h2 : ¬ e = 2 ^ 5 - 1 := by norm_num; omega
  rw [if_neg h2, if_neg h0]
  refine congrArg _ ?_
  have : (e : ℤ) - (2 ^ (5 - 1) - 1) - (10 : ℕ) = (e : ℤ) + (-25) := by push_cast; norm_num; ring
  rw [this, zpow_add₀ (by norm_num : (2 : ℝ) ≠ 0), zpow_natCast, ← mul_assoc]
  norm_num

/-- The value with the exponent re-based by 112 and the fraction shifted by 13 is the same. -/
theorem value_rebase (s e f : ℕ) (h0 : e ≠ 0) (h31 : e < 31) : value 8 23 s (e + 112) (f * 2 ^ 13) = value 5 10 s e f := by
  unfold value
  have h1 : ¬ e + 112 = 2 ^ 8 - 1 := by norm_num; omega
  have h2 : ¬ e = 2 ^ 5 - 1 := by norm_num; omega
  rw [if_neg h1, if_neg (by omega), if_neg h2, if_neg h0]
  congr 1
  have : ((e + 112 : ℕ) : ℤ) - (2 ^ (8 - 1) - 1) - (23 : ℕ) = ((e : ℤ) - (2 ^ (5 - 1) - 1) - (10 : ℕ)) + (-13) := by
    push_cast; norm_num; ring
  rw [this, zpow_add₀ (by norm_num : (2 : ℝ) ≠ 0)]
  push_cast
  have h13 : (2 : ℝ) ^ (-13 : ℤ) = 1 / 2 ^ 13 := by norm_num
  rw [h13]
  field_simp
  ring

/-! ## The two readings -/

section
variable {w : BitVec 32} {v : ℕ} (hw : w.toNat = v) (hv : v < 65536)

/-- The reading through a 32-bit pattern: the sign to bit 31, the exponent re-based by 112, the fraction shifted by 13;
    exponents 0 and 31 apart. -/
def viaPattern (w : BitVec 32) : EReal :=
  let sign := IntOp.shli .vector (IntOp.andi w 32768#32) 16#32
  let mag := IntOp.andi w 32767#32
  let expo := IntOp.shrsi .vector mag 10#32
  let sub : EReal := ((mag.toInt : ℝ) : EReal) * Ideal.ofBits .f32 0x33800000#32
  Scalar.select (IntOp.cmpi .eq expo 0#32)
    (Scalar.select (IntOp.cmpi .ne sign 0#32) (0 - sub) sub)
    (Ideal.ofBits .f32 (IntOp.ori sign (Scalar.select (IntOp.cmpi .eq expo 31#32)
      (IntOp.ori (IntOp.shli .vector mag 13#32) 2139095040#32) (IntOp.addi (IntOp.shli .vector mag 13#32) 939524096#32))))

/-- The reading by formula: sign times (1024 + fraction) times 2 to the (exponent - 25), exponents 0 and 31 apart. -/
def viaFormula (w : BitVec 32) : EReal :=
  let expo := IntOp.andi (IntOp.shrsi .host w 10#32) 31#32
  let frac := IntOp.andi w 1023#32
  Scalar.select (IntOp.andi (IntOp.cmpi .eq expo 31#32) (IntOp.cmpi .ne frac 0#32)) (Ideal.ofBits .f32 0x7FC00000#32)
    ((Scalar.select (IntOp.cmpi .eq (IntOp.shrsi .host w 15#32) 0#32) (Ideal.ofBits .f32 0x3F800000#32)
        (Ideal.ofBits .f32 0xBF800000#32))
      * Scalar.select (IntOp.cmpi .eq expo 31#32) (Ideal.ofBits .f32 0x7F800000#32)
          (Scalar.select (IntOp.cmpi .eq expo 0#32) (((frac.toInt : ℝ) : EReal) * Ideal.ofBits .f32 0x33800000#32)
            ((((IntOp.addi 1024#32 frac).toInt : ℝ) : EReal) * (((IntOp.shli .host 1#32 expo).toInt : ℝ) : EReal)
              * Ideal.ofBits .f32 0x33000000#32)))

theorem two_pow_neg_24 : Ideal.ofBits .f32 0x33800000#32 = (((2 : ℝ) ^ (-24 : ℤ) : ℝ) : EReal) := by
  simp [Ideal.ofBits, Ideal.ieee, -EReal.coe_mul]; norm_num

theorem two_pow_neg_25 : Ideal.ofBits .f32 0x33000000#32 = (((2 : ℝ) ^ (-25 : ℤ) : ℝ) : EReal) := by
  simp [Ideal.ofBits, Ideal.ieee, -EReal.coe_mul]; norm_num

theorem neg_one : Ideal.ofBits .f32 0xBF800000#32 = ((-1 : ℝ) : EReal) := by
  simp [Ideal.ofBits, Ideal.ieee, -EReal.coe_mul, -EReal.coe_neg]; norm_num

theorem plus_inf : Ideal.ofBits .f32 0x7F800000#32 = ⊤ := by simp [Ideal.ofBits, Ideal.ieee]

theorem nan : Ideal.ofBits .f32 0x7FC00000#32 = ⊥ := by simp [Ideal.ofBits, Ideal.ieee]

include hw hv in
theorem viaFormula_eq : viaFormula w = value 5 10 (v / 32768) (v / 1024 % 32) (v % 1024) := by
  have hx : (IntOp.andi (IntOp.shrsi .host w 10#32) 31#32).toNat = v / 1024 % 32 :=
    toNat_and_low (toNat_shrsi hw hv .host 10 (by decide)) 31#32 5 rfl
  have hf : (IntOp.andi w 1023#32).toNat = v % 1024 := toNat_and_low hw 1023#32 10 rfl
  have hs : (IntOp.shrsi .host w 15#32).toNat = v / 32768 := toNat_shrsi hw hv .host 15 (by decide)
  have ha : (IntOp.addi 1024#32 (IntOp.andi w 1023#32)).toNat = 1024 + v % 1024 := by
    unfold IntOp.addi
    rw [BitVec.toNat_add, hf, show (1024#32 : BitVec 32).toNat = 1024 from rfl]; omega
  unfold viaFormula
  dsimp only
  rw [select_eq hs, select_eq hx, select_eq hx, toInt_eq hf (by omega), toInt_eq ha (by omega)]
  have hlt : v / 32768 < 2 := by omega
  have hft : v % 1024 < 1024 := by omega
  rw [two_pow_neg_24, two_pow_neg_25, neg_one, plus_inf, nan, Ideal.ofBits_one_f32]
  have hsh : (IntOp.shli .host 1#32 (IntOp.andi (IntOp.shrsi .host w 10#32) 31#32)).toNat = 2 ^ (v / 1024 % 32) := by
    have : v / 1024 % 32 < 32 := by omega
    unfold IntOp.shli
    rw [hx, if_pos this, BitVec.shiftLeft_eq', hx, BitVec.toNat_shiftLeft, Nat.shiftLeft_eq,
      show (1#32 : BitVec 32).toNat = 1 from rfl, one_mul, Nat.mod_eq_of_lt (Nat.pow_lt_pow_right (by decide) this)]
  have hand : ∀ a b : EReal, Scalar.select (IntOp.andi (IntOp.cmpi .eq (IntOp.andi (IntOp.shrsi .host w 10#32) 31#32) 31#32)
      (IntOp.cmpi .ne (IntOp.andi w 1023#32) 0#32)) a b = if v / 1024 % 32 = 31 ∧ v % 1024 ≠ 0 then a else b := by
    intro a b
    unfold Scalar.select IntOp.andi IntOp.cmpi
    have e1 : (IntOp.andi (IntOp.shrsi .host w 10#32) 31#32 == 31#32) = decide (v / 1024 % 32 = 31) := by
      rw [Bool.eq_iff_iff, beq_iff_eq, decide_eq_true_eq, ← hx]
      exact ⟨fun h => by rw [h]; rfl, fun h => BitVec.eq_of_toNat_eq h⟩
    have e2 : (IntOp.andi w 1023#32 != 0#32) = decide (v % 1024 ≠ 0) := by
      rw [decide_not, bne, Bool.not_inj_iff, Bool.eq_iff_iff, beq_iff_eq, decide_eq_true_eq, ← hf]
      exact ⟨fun h => by rw [h]; rfl, fun h => BitVec.eq_of_toNat_eq h⟩
    unfold IntOp.andi at e1 e2
    rw [e1, e2]
    by_cases h : v / 1024 % 32 = 31 <;> by_cases h' : v % 1024 = 0 <;> simp [h, h']
  have hpw : 2 ^ (v / 1024 % 32) < 2 ^ 32 := Nat.pow_lt_pow_right (by decide) (by omega)
  rw [hand]
  by_cases h31 : v / 1024 % 32 = 31
  · have hc : v / 1024 % 32 = (31#32 : BitVec 32).toNat := by rw [h31]; rfl
    rw [h31, value_inf (by norm_num : 31 = 2 ^ 5 - 1)]
    by_cases hf0 : v % 1024 = 0
    · rw [if_neg (by omega : ¬ (31 = 31 ∧ v % 1024 ≠ 0)), if_pos hf0, if_pos (by rfl : 31 = (31#32 : BitVec 32).toNat)]
      by_cases h : v / 32768 = 0
      · have hc : v / 32768 = (0#32 : BitVec 32).toNat := by rw [h]; rfl
        rw [if_pos hc, if_neg (by omega : ¬ v / 32768 = 1), one_mul]
      · have hc : ¬ v / 32768 = (0#32 : BitVec 32).toNat := by show ¬ _ = 0; exact h
        rw [if_neg hc, if_pos (by omega : v / 32768 = 1), EReal.coe_mul_top_of_neg (by norm_num)]
    · rw [if_pos (by omega : 31 = 31 ∧ v % 1024 ≠ 0), if_neg hf0]
  · have hc : ¬ v / 1024 % 32 = (31#32 : BitVec 32).toNat := by show ¬ _ = 31; exact h31
    rw [if_neg (by omega : ¬ (v / 1024 % 32 = 31 ∧ v % 1024 ≠ 0)), if_neg hc]
    have hsg : (if v / 32768 = (0#32 : BitVec 32).toNat then (1 : EReal) else ((-1 : ℝ) : EReal))
        = ((if v / 32768 = 1 then (-1 : ℝ) else 1 : ℝ) : EReal) := by
      by_cases h : v / 32768 = 0
      · have hc : v / 32768 = (0#32 : BitVec 32).toNat := by rw [h]; rfl
        rw [if_pos hc, if_neg (by omega : ¬ v / 32768 = 1)]; rfl
      · have hc : ¬ v / 32768 = (0#32 : BitVec 32).toNat := by show ¬ _ = 0; exact h
        rw [if_neg hc, if_pos (by omega : v / 32768 = 1)]
    rw [hsg]
    by_cases h0 : v / 1024 % 32 = 0
    · rw [h0, if_pos (by rfl : 0 = (0#32 : BitVec 32).toNat), value_zero, ← EReal.coe_mul, ← EReal.coe_mul]
      generalize (if v / 32768 = 1 then (-1 : ℝ) else 1) = sg
      generalize v % 1024 = f
      generalize (2 : ℝ) ^ (-24 : ℤ) = q
      refine congrArg _ ?_
      push_cast
      ring
    · have hc0 : ¬ v / 1024 % 32 = (0#32 : BitVec 32).toNat := by show ¬ _ = 0; exact h0
      have hi : (IntOp.shli .host 1#32 (IntOp.andi (IntOp.shrsi .host w 10#32) 31#32)).toInt = (2 : ℤ) ^ (v / 1024 % 32) := by
        have hlt : 2 ^ (v / 1024 % 32) < 2 ^ 31 := Nat.pow_lt_pow_right (by decide) (by omega)
        rw [BitVec.toInt_eq_toNat_of_lt (by rw [hsh]; omega), hsh]
        push_cast
        rfl
      rw [if_neg hc0, value_normal _ _ _ h0 h31, hi, ← EReal.coe_mul, ← EReal.coe_mul, ← EReal.coe_mul]
      generalize (if v / 32768 = 1 then (-1 : ℝ) else 1) = sg
      generalize v % 1024 = f
      generalize (2 : ℝ) ^ (-25 : ℤ) = q
      refine congrArg _ ?_
      push_cast
      ring

include hw hv in
theorem viaPattern_eq : viaPattern w = value 5 10 (v / 32768) (v / 1024 % 32) (v % 1024) := by
  have hs0 := toNat_and_sign hw
  have hs : (IntOp.shli .vector (IntOp.andi w 32768#32) 16#32).toNat = v / 32768 % 2 * 32768 * 2 ^ 16 :=
    toNat_shli hs0 .vector 16 (by decide) (by omega)
  have hm : (IntOp.andi w 32767#32).toNat = v % 32768 := toNat_and_low hw 32767#32 15 rfl
  have hx : (IntOp.shrsi .vector (IntOp.andi w 32767#32) 10#32).toNat = v % 32768 / 2 ^ 10 :=
    toNat_shrsi hm (by omega) .vector 10 (by decide)
  have h13 : (IntOp.shli .vector (IntOp.andi w 32767#32) 13#32).toNat = v % 32768 * 2 ^ 13 :=
    toNat_shli hm .vector 13 (by decide) (by omega)
  unfold viaPattern
  dsimp only
  rw [select_eq hx, select_ne hs, select_eq hx, toInt_eq hm (by omega)]
  have hs2 : v / 32768 < 2 := by omega
  by_cases h0 : v / 1024 % 32 = 0
  · have hc0 : v % 32768 / 2 ^ 10 = (0#32 : BitVec 32).toNat := by show _ = 0; omega
    rw [if_pos hc0, two_pow_neg_24]
    have hf : v % 32768 = v % 1024 := by omega
    rw [hf, h0, value_zero]
    by_cases h : v / 32768 = 0
    · have hc : v / 32768 % 2 * 32768 * 2 ^ 16 = (0#32 : BitVec 32).toNat := by rw [h]; rfl
      rw [if_pos hc, if_neg (by omega : ¬ v / 32768 = 1), ← EReal.coe_mul]
      generalize v % 1024 = f
      generalize (2 : ℝ) ^ (-24 : ℤ) = q
      refine congrArg _ ?_
      push_cast
      ring
    · have h1 : v / 32768 = 1 := by omega
      have hc : ¬ v / 32768 % 2 * 32768 * 2 ^ 16 = (0#32 : BitVec 32).toNat := by rw [h1]; decide
      rw [if_neg hc, if_pos h1, ← EReal.coe_mul,
        ← EReal.coe_zero, ← EReal.coe_sub]
      generalize v % 1024 = f
      generalize (2 : ℝ) ^ (-24 : ℤ) = q
      refine congrArg _ ?_
      push_cast
      ring
  · have hc0 : ¬ v % 32768 / 2 ^ 10 = (0#32 : BitVec 32).toNat := by show ¬ _ = 0; omega
    rw [if_neg hc0]
    have hsg : (IntOp.shli .vector (IntOp.andi w 32768#32) 16#32).toNat = v / 32768 * 2 ^ 31 := by rw [hs]; omega
    by_cases h31 : v / 1024 % 32 = 31
    · have hc1 : v % 32768 / 2 ^ 10 = (31#32 : BitVec 32).toNat := by show _ = 31; omega
      rw [if_pos hc1]
      have hp := toNat_or_below hsg (toNat_or_inf (f := v % 1024 * 2 ^ 13) (by rw [h13]; omega) (by omega)) (by omega)
      show Ideal.ieee 8 23 _ = _
      rw [ieee_eq 8 23 _ (v / 32768) 255 (v % 1024 * 2 ^ 13) hs2 (by decide) (by omega) (by rw [hp]; omega), h31]
      rw [value_inf (by norm_num : 255 = 2 ^ 8 - 1), value_inf (by norm_num : 31 = 2 ^ 5 - 1)]
      by_cases hf : v % 1024 = 0
      · rw [if_pos (by omega), if_pos hf]
      · rw [if_neg (by omega), if_neg hf]
    · have hc1 : ¬ v % 32768 / 2 ^ 10 = (31#32 : BitVec 32).toNat := by show ¬ _ = 31; omega
      rw [if_neg hc1]
      have ha : (IntOp.addi (IntOp.shli .vector (IntOp.andi w 32767#32) 13#32) 939524096#32).toNat
          = (v / 1024 % 32 + 112) * 2 ^ 23 + v % 1024 * 2 ^ 13 := by
        unfold IntOp.addi
        rw [BitVec.toNat_add, h13, show (939524096#32 : BitVec 32).toNat = 939524096 from rfl]; omega
      have hp := toNat_or_below hsg ha (by omega)
      show Ideal.ieee 8 23 _ = _
      rw [ieee_eq 8 23 _ (v / 32768) (v / 1024 % 32 + 112) (v % 1024 * 2 ^ 13) hs2 (by omega) (by omega) (by rw [hp]; omega),
        value_rebase _ _ _ h0 (by omega)]

end

end Cert.Half
-- ==== Proof.Tile.lean ====
/- The weights the kernel leaves in its scratch, as one function of the block of bytes: forty tiles of 32 rows, eight to
   each 256-row block, every one written by the same operations. -/
module

public import proofs.«01_k».proof.Proof.Gen.KernelIdeal.Frame
public import Idealize.ShloMosaic.Lib.Pipeline.ReadBack
public import Idealize.ShloMosaic.Lib.WholeRead
public import Idealize.ShloMosaic.Lib.ValueIdxCore

@[expose] public section

set_option maxRecDepth 16384

noncomputable section

namespace Cert.Tile

open Cert.KernelIdeal Cert.KernelIdeal.Gen Idealize.ShloMosaic Idealize.ShloMosaic.TcCoe Idealize.SL.Sem
open Idealize.ShloMosaic.ValueIdx

variable {F : FTy → Type} [FloatOps F]

/-! ## One tile's operations -/

/-- The sixteen group scales of a block, from its last 14 bytes. -/
def scales (v : Vec F S1x14x512 .i8) : FVec F S16x512 .f32 :=
  k0_pay8 (k0_pay2 v) (k0_pay4 v) (k0_pay5 v) (k0_pay6 v) (k0_pay7 v)

/-- 32 rows of bytes as 8 rows of words. -/
def words (v : Vec F S1x32x512 .i8) : IVec S8x512 32 :=
  bitcast S8x512 32 (shapeCast S32x512 v shapeCasts_S1x32x512_S32x512 : IVec S32x512 8) bitcasts_S32x512_w8_S8x512_w32

/-- The two low bits of each byte's field: the words shifted right and masked. -/
def lowWord (q : IVec S8x512 32) (s : BitVec 32) : IVec S8x512 32 :=
  andi (shrsi q (broadcast S8x512 s)) (broadcast S8x512 50529027#32)

/-- The high bit of tile `f`'s fields, moved to bit 2 of its byte: left by `2 - f` in the first two tiles, else right by `f - 2`. -/
def highWord (f : ℕ) (m : IVec S8x512 32) : IVec S8x512 32 :=
  if f < 2 then andi (shli m (broadcast S8x512 (BitVec.ofNat 32 (2 - f)))) (broadcast S8x512 67372036#32)
  else andi (shrsi m (broadcast S8x512 (BitVec.ofNat 32 (f - 2)))) (broadcast S8x512 67372036#32)

/-- One row of scales on 16 rows. -/
def spread (g : Vec F S1x512 .f32) : FVec F S16x512 .bf16 :=
  interleaveRows S16x512 (truncf .bf16 (broadcastTo S8x512 (shapeCast S1x512 g shapeCasts_S1x512_S1x512) broadcasts_S1x512_S8x512))
    (truncf .bf16 (broadcastTo S8x512 (shapeCast S1x512 g shapeCasts_S1x512_S1x512) broadcasts_S1x512_S8x512)) bitcasts_S16x512_w16_S8x512_w32

/-- A tile: the fields less 4, times the scales of their two groups of 16 rows. -/
def tileOf (u : IVec S8x512 32) (g g' : Vec F S1x512 .f32) : FVec F S32x512 .bf16 :=
  shapeCast S32x512
    (mulf (subf (sitofp .bf16 (bitcast S32x512 8 u bitcasts_S8x512_w32_S32x512_w8)) (broadcast S32x512 (Scalar.ofBits .bf16 0x4080#16)))
      (concatenate S32x512 0 [⟨S16x512, spread g⟩, ⟨S16x512, spread g'⟩] concatenates_S16x512_S16x512_S32x512_d0))
    shapeCasts_S32x512_S32x512

/-! ## The tile at a place of the block of bytes -/

/-- Rows `o` to `o + 31` of block `b`'s bytes lie in the array. -/
theorem inb32 {b o : ℕ} (hb : b < 5) (ho : o + 32 ≤ 110) :
    ∀ a, (![b, o, 0] : Fin S5x110x512.rank → ℕ) a + S1x32x512.size a ≤ S5x110x512.size a := fun a => by
  match a with
  | ⟨0, _⟩ => exact hb
  | ⟨1, _⟩ => exact ho
  | ⟨2, _⟩ => exact le_refl 512

/-- Block `b`'s last 14 bytes lie in the array. -/
theorem inb14 {b : ℕ} (hb : b < 5) :
    ∀ a, (![b, 96, 0] : Fin S5x110x512.rank → ℕ) a + S1x14x512.size a ≤ S5x110x512.size a := fun a => by
  match a with
  | ⟨0, _⟩ => exact hb
  | ⟨1, _⟩ => exact le_refl 110
  | ⟨2, _⟩ => exact le_refl 512

/-- A scale's row lies in the sixteen. -/
theorem inb1 {i : ℕ} (hi : i < 16) :
    ∀ a, (![i, 0] : Fin S16x512.rank → ℕ) a + S1x512.size a ≤ S16x512.size a := fun a => by
  match a with
  | ⟨0, _⟩ => exact hi
  | ⟨1, _⟩ => exact le_refl 512

/-- The scale row `i` of block `b`. -/
def scaleRow (x : Vec F S5x110x512 .i8) (b i : ℕ) (hb : b < 5) (hi : i < 16) : Vec F S1x512 .f32 :=
  View.ld (Val := Elt F) (e' := .f32) (scales (View.ld (Val := Elt F) (e' := .i8) x (Rect.unit (s := S5x110x512) ![b, 96, 0] S1x14x512.size (inb14 hb)))) (Rect.unit (s := S16x512) ![i, 0] S1x512.size (inb1 hi))

/-- Tile `f` of block `b`. -/
def tile (x : Vec F S5x110x512 .i8) (b f : ℕ) (hb : b < 5) (hf : f < 8) : FVec F S32x512 .bf16 :=
  tileOf
    (ori (lowWord (words (View.ld (Val := Elt F) (e' := .i8) x (Rect.unit (s := S5x110x512) ![b, 32 + 32 * (f / 4), 0] S1x32x512.size (inb32 hb (by omega)))))
        (BitVec.ofNat 32 (2 * (f % 4))))
      (highWord f (words (View.ld (Val := Elt F) (e' := .i8) x (Rect.unit (s := S5x110x512) ![b, 0, 0] S1x32x512.size (inb32 hb (by omega)))))))
    (scaleRow x b (2 * f) hb (by omega)) (scaleRow x b (2 * f + 1) hb (by omega))

/-- All the weights: row `r` is row `r mod 32` of tile `r mod 256 / 32` of block `r / 256`. -/
def weights (x : Vec F S5x110x512 .i8) : Vec F S1280x512 .bf16 := fun y =>
  have h : (y 0).val < 1280 := (y 0).isLt
  tile x ((y 0).val / 256) ((y 0).val % 256 / 32) (by omega) (by omega)
    (ix2 (⟨(y 0).val % 32, Nat.mod_lt _ (by decide)⟩ : Fin 32) (y 1))

/-- A tile stored at its rows is that part of the weights. -/
theorem tile_eq_weights (x : Vec F S5x110x512 .i8) (b f : ℕ) (hb : b < 5) (hf : f < 8) (o : ℕ) (ho : o = 256 * b + 32 * f)
    (inb : ∀ a, (![o, 0] : Fin S1280x512.rank → ℕ) a + S32x512.size a ≤ S1280x512.size a)
    (y : (Rect.unit (s := S1280x512) ![o, 0] S32x512.size inb).shape.Idx) :
    tile x b f hb hf y = weights x ((Rect.unit (s := S1280x512) ![o, 0] S32x512.size inb).emb y) := by
  have hy : (y 0).val < 32 := (y 0).isLt
  have h0 : (((Rect.unit (s := S1280x512) ![o, 0] S32x512.size inb).emb y) 0).val = o + (y 0).val := by
    show o + 1 * (y 0).val = _; omega
  unfold weights
  dsimp only
  have e1 : (((Rect.unit (s := S1280x512) ![o, 0] S32x512.size inb).emb y) 0).val / 256 = b := by rw [h0]; omega
  have e2 : (((Rect.unit (s := S1280x512) ![o, 0] S32x512.size inb).emb y) 0).val % 256 / 32 = f := by rw [h0]; omega
  have e3 : (((Rect.unit (s := S1280x512) ![o, 0] S32x512.size inb).emb y) 0).val % 32 = (y 0).val := by rw [h0]; omega
  simp only [e1, e2, e3]
  congr 1
  funext a
  match a with
  | ⟨0, _⟩ => rfl
  | ⟨1, _⟩ => exact Fin.ext (by show (y 1).val = 0 + 1 * (y 1).val; omega)

/-- The weights at the rows stored from row `o` on, `o` a multiple of 32: the place's tile. -/
theorem weights_emb (x : Vec F S5x110x512 .i8) (o : ℕ) (h : o + 32 ≤ 1280) (h' : o % 32 = 0)
    (inb : ∀ a, (![o, 0] : Fin S1280x512.rank → ℕ) a + (![32, 512] : Fin S1280x512.rank → ℕ) a ≤ S1280x512.size a)
    (y : (Rect.unit (s := S1280x512) ![o, 0] ![32, 512] inb).shape.Idx) :
    weights x ((Rect.unit (s := S1280x512) ![o, 0] ![32, 512] inb).emb y)
      = tile x (o / 256) (o % 256 / 32) (by omega) (by omega) y :=
  (tile_eq_weights x _ _ _ _ o (by omega) inb y).symm

/-! ## The run's forty stores -/

variable (c : Dev nD) (arg2 : Memref sig .tc .vmem S5x110x512 .i8) (harg2 : arg2.IsWhole) (arg5 : Memref sig .tc .vmem S16x512 .f32)

/-- A load of a whole staging buffer's rectangle reads the block there. -/
theorem load_eq (x : Vec F S5x110x512 .i8) (r : Rect S5x110x512) :
    View.readAt (Elt F) arg2.view r.toLoadRect (harg2.unread x) = View.ld (Val := Elt F) (e' := .i8) x r :=
  funext fun _ => harg2.readAt_unread x _ _

set_option maxHeartbeats 2000000 in
/-- Every store of the forty is its part of the weights. -/
theorem pieces (x : Vec F S5x110x512 .i8) : View.PiecesOf (weights x) (kernelRun0_A.sl.HS0_40 c arg2 harg2 arg5 x) := by
  sl_unfold_run_names
  simp (disch := decide) only [load_eq, ↓ View.readCov_fill, View.PiecesOf]
  simp (disch := decide) only [weights_emb, tile, tileOf, scaleRow, scales, spread, words,
    lowWord, highWord, Nat.reduceDiv, Nat.reduceMod, Nat.reduceMul, Nat.reduceAdd, Nat.reduceSub, Nat.reduceLT, if_true, if_false,
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, true_and, and_true, implies_true]

end Cert.Tile

end
-- ==== Proof.Weight.lean ====
/- What the kernel's weights are, at the ideal values: the field of each row, from 0 to 7, less 4, times the block's
   16-bit float times the row's group scale. -/
module

public import proofs.«01_k».proof.Proof.Bytes
public import proofs.«01_k».proof.Proof.Half
public import proofs.«01_k».proof.Proof.Tile
public import Idealize.ShloMosaic.Lib.Pointwise
public import Idealize.ShloMosaic.Lib.ValueLayout

@[expose] public section

set_option maxRecDepth 16384

noncomputable section

namespace Cert.Weight

open Cert.KernelIdeal Cert.KernelIdeal.Gen Idealize.ShloMosaic Idealize.ShloMosaic.TcCoe Idealize.SL.Sem

/-! ## The numbers of a block -/

/-- The field of row `r` of 256, less 4: two bits of byte `32 + 32 (r / 128) + r mod 32` and one of byte `r mod 32`. -/
def level (y : Fin 110 → BitVec 8) (r : Fin 256) : ℤ :=
  ((y ⟨32 + 32 * (r.val / 128) + r.val % 32, by omega⟩).toNat / 4 ^ (r.val % 128 / 32) % 4
    + 4 * ((y ⟨r.val % 32, by omega⟩).toNat / 2 ^ (r.val / 32) % 2) : ℕ) - 4

/-- The whole-number scale of group `i` of 16: four bits of byte `96 + i mod 8`, two of byte `104 + i mod 4`, less 32. -/
def groupScale (y : Fin 110 → BitVec 8) (i : Fin 16) : ℤ :=
  ((y ⟨96 + i.val % 8, by omega⟩).toNat / 16 ^ (i.val / 8) % 16
    + 16 * ((y ⟨104 + i.val % 4, by omega⟩).toNat / 4 ^ (i.val / 4) % 4) : ℕ) - 32

/-- The scale of group `i`. -/
def scale (y : Fin 110 → BitVec 8) (i : Fin 16) : EReal :=
  Half.half (y 108) (y 109) * ((groupScale y i : ℝ) : EReal)

/-- The weight of row `r`. -/
def weight (y : Fin 110 → BitVec 8) (r : Fin 256) : EReal :=
  ((level y r : ℝ) : EReal) * scale y ⟨r.val / 16, by omega⟩

/-- The result at row `r` and column `o`: the sum over the 1280 inputs of activation times weight. -/
def result (a : (⟨3, ![3, 640, 1280]⟩ : Shape).Idx → EReal) (b : (⟨3, ![5120, 5, 110]⟩ : Shape).Idx → BitVec 8)
    (r : Fin 1920) (o : Fin 5120) : EReal :=
  ∑ k : Fin 1280, a (ix3 ⟨r.val / 640, by omega⟩ ⟨r.val % 640, Nat.mod_lt _ (by decide)⟩ k)
    * weight (fun n => b (ix3 o ⟨k.val / 256, by omega⟩ n)) ⟨k.val % 256, Nat.mod_lt _ (by decide)⟩

/-- The group scale from the two parts' words. -/
theorem toInt_parts (lo hi : BitVec 32) (a b : ℕ) (ha : lo.toNat = a) (hb : hi.toNat = b) (ha' : a < 16) (hb' : b < 4) (u : ArithUnit) :
    (IntOp.subi (IntOp.ori lo (IntOp.shli u hi 4#32)) 32#32).toInt = ((a + 16 * b : ℕ) : ℤ) - 32 := by
  have h : (IntOp.ori lo (IntOp.shli u hi 4#32)).toNat = b * 2 ^ 4 + a := by
    rw [Half.ori_comm]
    exact Half.toNat_or_below (Half.toNat_shli hb u 4 (by decide) (by omega)) ha ha'
  have key : ∀ n : Fin 64, (IntOp.subi (BitVec.ofNat 32 n.val) 32#32).toInt = (n.val : ℤ) - 32 := by decide +kernel
  have e : IntOp.ori lo (IntOp.shli u hi 4#32) = BitVec.ofNat 32 (a + 16 * b) :=
    BitVec.eq_of_toNat_eq (by rw [h, BitVec.toNat_ofNat]; omega)
  rw [e]
  exact key ⟨a + 16 * b, by omega⟩

/-- Bits `k` to `k + n - 1` of a byte. -/
theorem toNat_bits (b : BitVec 8) (u : ArithUnit) (k n : ℕ) (hk : k < 32) (m : BitVec 32) (hm : m.toNat = 2 ^ n - 1) :
    (IntOp.andi (IntOp.shrsi u (b.setWidth 32) (BitVec.ofNat 32 k)) m).toNat = b.toNat / 2 ^ k % 2 ^ n :=
  Half.toNat_and_low (Half.toNat_shrsi (Half.toNat_byte b) (by omega) u k hk) m n hm

/-- A byte's shift with nothing masked. -/
theorem toNat_shifted (b : BitVec 8) (u : ArithUnit) (k : ℕ) (hk : k < 32) :
    (IntOp.shrsi u (b.setWidth 32) (BitVec.ofNat 32 k)).toNat = b.toNat / 2 ^ k :=
  Half.toNat_shrsi (Half.toNat_byte b) (by omega) u k hk

/-- One byte's digit, its place and the digit's number each written in two ways. -/
theorem digit (y : Fin 110 → BitVec 8) {a a' : ℕ} (ha : a < 110) (ha' : a' < 110) (h : a = a') (n p q D : ℕ) (hq : p = D ^ q) (hn : n = D) :
    (y ⟨a, ha⟩).toNat / p % n = (y ⟨a', ha'⟩).toNat / D ^ q % D := by
  subst h hq hn; rfl

/-! ## The scales -/

theorem scales_apply (v : Vec Ideal S1x14x512 .i8) (y : Fin 110 → BitVec 8) (i : Fin 16) (l : Fin 512)
    (hv : ∀ a : Fin 14, v (ix3 0 a l) = y ⟨96 + a.val, by omega⟩) :
    Tile.scales (F := Ideal) v (ix2 i l) = scale y i := by
  unfold Tile.scales k0_pay8 k0_pay2 k0_pay4 k0_pay5 k0_pay6 k0_pay7 k0_pay5 k0_pay3 k0_pay1
  pointwise
  unfold scale
  refine congrArg₂ (· * ·) ?_ ?_
  · simp only [hv]
    refine (Half.viaPattern_eq (Half.toNat_word .vector _ _) (Half.num_lt _ _)).trans ?_
    exact (Half.half_eq _ _).symm
  · show (((IntOp.subi (IntOp.ori _ (IntOp.shli .vector _ 4#32)) 32#32).toInt : ℝ) : EReal) = _
    unfold groupScale
    congr 2
    refine toInt_parts _ _ _ _ ?_ ?_ (Nat.mod_lt _ (by decide)) (Nat.mod_lt _ (by decide)) _
    · simp only [hv]
      split
      · rw [Half.toNat_and_low (Half.toNat_byte _) 15#32 4 rfl, ← Nat.div_one (BitVec.toNat _)]
        exact digit y _ _ (by omega) _ _ _ 16 (by rw [show i.val / 8 = 0 by omega]; rfl) rfl
      · rw [toNat_shifted _ _ 4 (by decide), ← Nat.mod_eq_of_lt (show (BitVec.toNat _) / 2 ^ 4 < 16 by omega)]
        exact digit y _ _ (by omega) _ _ _ 16 (by rw [show i.val / 8 = 1 by omega]; rfl) rfl
    · simp only [hv]
      split
      · rw [Half.toNat_and_low (Half.toNat_byte _) 3#32 2 rfl, ← Nat.div_one (BitVec.toNat _)]
        exact digit y _ _ (by omega) _ _ _ 4 (by rw [show i.val / 4 = 0 by omega]; rfl) rfl
      split
      · rw [toNat_bits _ _ 2 2 (by decide) 3#32 rfl]
        exact digit y _ _ (by omega) _ _ _ 4 (by rw [show i.val / 4 = 1 by omega]; rfl) rfl
      split
      · rw [toNat_bits _ _ 4 2 (by decide) 3#32 rfl]
        exact digit y _ _ (by omega) _ _ _ 4 (by rw [show i.val / 4 = 2 by omega]; rfl) rfl
      · rw [toNat_shifted _ _ 6 (by decide), ← Nat.mod_eq_of_lt (show (BitVec.toNat _) / 2 ^ 6 < 4 by omega)]
        exact digit y _ _ (by omega) _ _ _ 4 (by rw [show i.val / 4 = 3 by omega]; rfl) rfl

/-! ## One tile -/

/-- A block's bytes for one output row. -/
def bytesOf (x : Vec Ideal S5x110x512 .i8) (b : Fin 5) (l : Fin 512) : Fin 110 → BitVec 8 := fun a => x (ix3 b a l)

theorem spread_apply (g : Vec Ideal S1x512 .f32) (p : Fin 16) (l : Fin 512) :
    Tile.spread (F := Ideal) g (ix2 p l) = g (ix2 0 l) := by
  unfold Tile.spread
  pointwise
  exact ite_self _

/-- A load of 1 × `n` × 512 bytes at block `b`, byte `o`. -/
theorem ld_apply (x : Vec Ideal S5x110x512 .i8) (b : Fin 5) (o n : ℕ) (ho : o + n ≤ 110)
    (inb : ∀ a, (![b.val, o, 0] : Fin S5x110x512.rank → ℕ) a + (![1, n, 512] : Fin S5x110x512.rank → ℕ) a ≤ S5x110x512.size a)
    (p : Fin n) (l : Fin 512) :
    View.ld (Val := Elt Ideal) (e' := .i8) x (Rect.unit (s := S5x110x512) ![b.val, o, 0] ![1, n, 512] inb)
      (ix3 (0 : Fin 1) p l : (⟨3, ![1, n, 512]⟩ : Shape).Idx) = bytesOf x b l ⟨o + p.val, by omega⟩ := by
  refine congrArg x (funext fun a => Fin.ext ?_)
  match a with
  | ⟨0, _⟩ => show b.val + 1 * 0 = b.val; omega
  | ⟨1, _⟩ => show o + 1 * p.val = o + p.val; omega
  | ⟨2, _⟩ => show 0 + 1 * l.val = l.val; omega

theorem scaleRow_apply (x : Vec Ideal S5x110x512 .i8) (b : Fin 5) (i : Fin 16) (l : Fin 512) :
    Tile.scaleRow (F := Ideal) x b.val i.val b.isLt i.isLt (ix2 0 l) = scale (bytesOf x b l) i := by
  unfold Tile.scaleRow
  pointwise
  exact scales_apply _ _ i l fun a => ld_apply x b 96 14 (by decide) _ a l

/-- The field of one row: two bits of one byte and one of another, less 4. -/
theorem field_toInt (q m : BitVec 8) (f : Fin 8) :
    ((((q >>> (2 * (f.val % 4))) &&& 3#8) ||| ((if f.val < 2 then m <<< (2 - f.val) else m >>> (f.val - 2)) &&& 4#8)).toInt : ℤ)
      = ((q.toNat / 4 ^ (f.val % 4) % 4 + 4 * (m.toNat / 2 ^ f.val % 2) : ℕ) : ℤ) := by
  have hq : ∀ q : Fin 256, ∀ j : Fin 4, ((BitVec.ofFin q : BitVec 8) >>> (2 * j.val)) &&& 3#8 = BitVec.ofNat 8 (q.val / 4 ^ j.val % 4) := by
    decide +kernel
  have hm : ∀ m : Fin 256, ∀ f : Fin 8, ((if f.val < 2 then (BitVec.ofFin m : BitVec 8) <<< (2 - f.val) else (BitVec.ofFin m : BitVec 8) >>> (f.val - 2)) &&& 4#8)
      = BitVec.ofNat 8 (4 * (m.val / 2 ^ f.val % 2)) := by
    decide +kernel
  have hj : ∀ a : Fin 4, ∀ b : Fin 2, ((BitVec.ofNat 8 a.val ||| BitVec.ofNat 8 (4 * b.val)).toInt : ℤ) = ((a.val + 4 * b.val : ℕ) : ℤ) := by
    decide +kernel
  have e1 := hq q.toFin ⟨f.val % 4, Nat.mod_lt _ (by decide)⟩
  have e2 := hm m.toFin f
  exact (congrArg BitVec.toInt (congrArg₂ (· ||| ·) e1 e2)).trans
    (hj ⟨q.toNat / 4 ^ (f.val % 4) % 4, Nat.mod_lt _ (by decide)⟩ ⟨m.toNat / 2 ^ f.val % 2, Nat.mod_lt _ (by decide)⟩)

/-- The byte of a tile's field. -/
theorem field_byte (q m : IVec S32x512 8) (f : Fin 8) (p : Fin 32) (l : Fin 512) :
    bitcast S32x512 8 (ori (Tile.lowWord (bitcast S8x512 32 q bitcasts_S32x512_w8_S8x512_w32) (BitVec.ofNat 32 (2 * (f.val % 4))))
        (Tile.highWord f.val (bitcast S8x512 32 m bitcasts_S32x512_w8_S8x512_w32))) bitcasts_S8x512_w32_S32x512_w8 (ix2 p l)
      = ((q (ix2 p l) >>> (2 * (f.val % 4))) &&& 3#8)
        ||| ((if f.val < 2 then m (ix2 p l) <<< (2 - f.val) else m (ix2 p l) >>> (f.val - 2)) &&& 4#8) := by
  have hp : p.val / 4 < 8 := by omega
  refine (Bytes.bytes_ori _ _ _ p l ⟨p.val / 4, hp⟩ rfl).trans (congrArg₂ (· ||| ·) ?_ ?_)
  · have hs : (BitVec.ofNat 32 (2 * (f.val % 4))).toNat = 2 * (f.val % 4) := by rw [BitVec.toNat_ofNat]; omega
    have hb : ∀ j : Fin 4, ∀ i < 8, (3#8 : BitVec 8).getLsbD i = true → 2 * j.val + i < 8 := by decide
    refine (Bytes.bytes_shr q _ _ _ 50529027#32 3#8 (by decide) (by rw [hs]; omega) ?_ p l ⟨p.val / 4, hp⟩ rfl).trans (by rw [hs]; rfl)
    rw [hs]
    exact hb ⟨f.val % 4, Nat.mod_lt _ (by decide)⟩
  · unfold Tile.highWord
    by_cases hf : f.val < 2
    · rw [if_pos hf, if_pos hf]
      have hs : (BitVec.ofNat 32 (2 - f.val)).toNat = 2 - f.val := by rw [BitVec.toNat_ofNat]; omega
      have hb : ∀ j : Fin 3, ∀ i < 8, (4#8 : BitVec 8).getLsbD i = true → j.val ≤ i := by decide
      refine (Bytes.bytes_shl m _ _ _ 67372036#32 4#8 (by decide) (by rw [hs]; omega) ?_ p l ⟨p.val / 4, hp⟩ rfl).trans (by rw [hs]; rfl)
      rw [hs]
      exact hb ⟨2 - f.val, by omega⟩
    · rw [if_neg hf, if_neg hf]
      have hs : (BitVec.ofNat 32 (f.val - 2)).toNat = f.val - 2 := by rw [BitVec.toNat_ofNat]; omega
      have hb : ∀ j : Fin 6, ∀ i < 8, (4#8 : BitVec 8).getLsbD i = true → j.val + i < 8 := by decide
      refine (Bytes.bytes_shr m _ _ _ 67372036#32 4#8 (by decide) (by rw [hs]; omega) ?_ p l ⟨p.val / 4, hp⟩ rfl).trans (by rw [hs]; rfl)
      rw [hs]
      exact hb ⟨f.val - 2, by omega⟩

/-- The fields of a tile as numbers. -/
theorem field_apply (v w : Vec Ideal S1x32x512 .i8) (f : Fin 8) (p : Fin 32) (l : Fin 512) :
    (FloatOps.sitofp (F := Ideal) .bf16 (bitcast S32x512 8 (ori (Tile.lowWord (Tile.words v) (BitVec.ofNat 32 (2 * (f.val % 4))))
        (Tile.highWord f.val (Tile.words w))) bitcasts_S8x512_w32_S32x512_w8 (ix2 p l)) : EReal)
      = (((((v (ix3 0 p l)).toNat / 4 ^ (f.val % 4) % 4 + 4 * ((w (ix3 0 p l)).toNat / 2 ^ f.val % 2) : ℕ) : ℤ) : ℝ) : EReal) := by
  have h : ∀ v : Vec Ideal S1x32x512 .i8,
      (shapeCast S32x512 v shapeCasts_S1x32x512_S32x512 : IVec S32x512 8) (ix2 p l) = v (ix3 0 p l) := fun v => by pointwise
  have e := (congrArg BitVec.toInt (field_byte (shapeCast S32x512 v shapeCasts_S1x32x512_S32x512)
    (shapeCast S32x512 w shapeCasts_S1x32x512_S32x512) f p l)).trans (field_toInt _ _ f)
  rw [h, h] at e
  exact congrArg (fun z : ℤ => ((z : ℝ) : EReal)) e

theorem four_bf16 : Ideal.ofBits .bf16 0x4080#16 = ((4 : ℝ) : EReal) := by
  simp [Ideal.ofBits, Ideal.ieee, -EReal.coe_mul]; norm_num

/-- Tile `f` of block `b`: row `p` is row `32 f + p` of the block's weights. -/
theorem tile_apply (x : Vec Ideal S5x110x512 .i8) (b : Fin 5) (f : Fin 8) (p : Fin 32) (l : Fin 512) :
    Tile.tile (F := Ideal) x b.val f.val b.isLt f.isLt (ix2 p l) = weight (bytesOf x b l) ⟨32 * f.val + p.val, by omega⟩ := by
  unfold Tile.tile Tile.tileOf
  pointwise
  unfold weight
  refine congrArg₂ (· * ·) ?_ ?_
  · rw [four_bf16]
    have e := field_apply (View.ld (Val := Elt Ideal) (e' := .i8) x (Rect.unit (s := S5x110x512) ![b.val, 32 + 32 * (f.val / 4), 0] S1x32x512.size (Tile.inb32 b.isLt (by omega))))
      (View.ld (Val := Elt Ideal) (e' := .i8) x (Rect.unit (s := S5x110x512) ![b.val, 0, 0] S1x32x512.size (Tile.inb32 b.isLt (by omega)))) f p l
    rw [ld_apply x b (32 + 32 * (f.val / 4)) 32 (by omega) _ p l, ld_apply x b 0 32 (by omega) _ p l] at e
    refine (congrArg (· - ((4 : ℝ) : EReal)) e).trans ?_
    rw [← EReal.coe_sub]
    have h1 : (bytesOf x b l ⟨32 + 32 * (f.val / 4) + p.val, by omega⟩)
        = bytesOf x b l ⟨32 + 32 * ((32 * f.val + p.val) / 128) + (32 * f.val + p.val) % 32, by omega⟩ :=
      congrArg _ (Fin.ext (by dsimp only; omega))
    have h2 : (bytesOf x b l ⟨0 + p.val, by omega⟩) = bytesOf x b l ⟨(32 * f.val + p.val) % 32, by omega⟩ :=
      congrArg _ (Fin.ext (by dsimp only; omega))
    have h3 : f.val % 4 = (32 * f.val + p.val) % 128 / 32 := by omega
    have h4 : 2 ^ f.val = 2 ^ ((32 * f.val + p.val) / 32) := congrArg _ (by omega)
    rw [h1, h2, h3, h4]
    unfold level
    push_cast
    rfl
  · split
    · refine (spread_apply _ _ l).trans ((scaleRow_apply x b ⟨2 * f.val, by omega⟩ l).trans (congrArg _ (Fin.ext ?_)))
      show 2 * f.val = (32 * f.val + p.val) / 16; omega
    · refine (spread_apply _ _ l).trans ((scaleRow_apply x b ⟨2 * f.val + 1, by omega⟩ l).trans (congrArg _ (Fin.ext ?_)))
      show 2 * f.val + 1 = (32 * f.val + p.val) / 16; omega

/-- All the weights. -/
theorem weights_apply (x : Vec Ideal S5x110x512 .i8) (r : Fin 1280) (l : Fin 512) :
    Tile.weights (F := Ideal) x (ix2 r l) = weight (bytesOf x ⟨r.val / 256, by omega⟩ l) ⟨r.val % 256, Nat.mod_lt _ (by decide)⟩ :=
  (tile_apply x ⟨r.val / 256, by omega⟩ ⟨r.val % 256 / 32, by omega⟩ ⟨r.val % 32, Nat.mod_lt _ (by decide)⟩ l).trans
    (congrArg _ (Fin.ext (by dsimp only; omega)))

end Cert.Weight
-- ==== Proof.Ref.lean ====
/- The reference's weight matrix, stage by stage, at the ideal values: each entry is the weight of its block's bytes, the
   number the kernel's weights are. -/
module

public import proofs.«01_k».proof.Proof.Weight
public import proofs.«01_k».proof.Proof.Gen.ReferenceIdeal.Run

@[expose] public section

set_option maxRecDepth 16384

noncomputable section

namespace Cert.Ref

open Cert.ReferenceIdeal Cert.ReferenceIdeal.Gen Idealize.ShloMosaic Idealize.ShloMosaic.TcCoe Idealize.SL.Sem

/-! ## The stages -/

/-- One word at every block. -/
abbrev word (v : BitVec 32) : IVec S5120x5x1 32 := broadcastInDim S5120x5x1 ![] bcast_S_S5120x5x1 (constantI S_ 32 v)

/-- One float at every block. -/
abbrev float (v : BitVec 32) : FVec Ideal S5120x5x1 .f32 := broadcastInDim S5120x5x1 ![] bcast_S_S5120x5x1 (constant S_ .f32 v)

/-- The word of a block's last two bytes. -/
def halfWord (b : Vec Ideal S5120x5x110 .i8) : IVec S5120x5x1 32 :=
  ori (extractStridedSlice S5120x5x1 ![0, 0, 108] (extui 32 b natLt_8_32) slices_S5120x5x110_S5120x5x1_0_0_108)
    (Host.shli (extractStridedSlice S5120x5x1 ![0, 0, 109] (extui 32 b natLt_8_32)
    slices_S5120x5x110_S5120x5x1_0_0_109) (broadcastInDim S5120x5x1 ![] bcast_S_S5120x5x1 (constantI S_ 32 8#32)))

/-- The value of such a word as a 16-bit float. -/
def halfOf (w : IVec S5120x5x1 32) : FVec Ideal S5120x5x1 .f32 :=
  select (andi (cmpi .eq (andi (Host.shrsi w (word 10#32)) (word 31#32)) (word 31#32)) (cmpi .ne (andi w (word
    1023#32)) (word 0#32))) (float 0x7FC00000#32) (mulf (id (select (cmpi .eq (Host.shrsi w (word 15#32)) (word 0#32))
    (float 0x3F800000#32) (float 0xBF800000#32))) (select (cmpi .eq (andi (Host.shrsi w (word 10#32)) (word 31#32))
    (word 31#32)) (float 0x7F800000#32) (select (cmpi .eq (andi (Host.shrsi w (word 10#32)) (word 31#32)) (word 0#32))
    (mulf (sitofp .f32 (andi w (word 1023#32))) (float 0x33800000#32)) (mulf (mulf (sitofp .f32 (addi (word 1024#32)
    (andi w (word 1023#32)))) (sitofp .f32 (Host.shli (word 1#32) (andi (Host.shrsi w (word 10#32)) (word 31#32)))))
    (float 0x33000000#32)))))

/-- The blocks' 16-bit floats. -/
abbrev halves (b : Vec Ideal S5120x5x110 .i8) : FVec Ideal S5120x5x1 .f32 := halfOf (halfWord b)

/-- The groups' whole-number scales. -/
def groupScales (b : Vec Ideal S5120x5x110 .i8) : FVec Ideal S5120x5x16 .f32 :=
  sitofp .f32 (subi (ori (shapeCast _ (andi (Host.shrsi (broadcastInDim S5120x5x2x8 ![0, 1, 2, 3]
    bcast_S5120x5x1x8_S5120x5x2x8_0_1_2_3 (shapeCast _ (extractStridedSlice S5120x5x8 ![0, 0, 0] (extractStridedSlice
    S5120x5x12 ![0, 0, 96] (extui 32 b natLt_8_32) slices_S5120x5x110_S5120x5x12_0_0_96)
    slices_S5120x5x12_S5120x5x8_0_0_0) shapeCasts_S5120x5x8_S5120x5x1x8)) (broadcastInDim S5120x5x2x8 ![0, 1, 2, 3]
    bcast_S1x1x2x1_S5120x5x2x8_0_1_2_3 (broadcastInDim S1x1x2x1 ![2, 3] bcast_S2x1_S1x1x2x1_2_3 (broadcastInDim S2x1
    ![0] bcast_S2_S2x1_0 (muli (broadcastInDim S2 ![] bcast_S_S2 (constantI S_ 32 4#32)) (iotaInDim S2 32 0))))))
    (broadcastInDim S5120x5x2x8 ![] bcast_S_S5120x5x2x8 (constantI S_ 32 15#32))) shapeCasts_S5120x5x2x8_S5120x5x16)
    (Host.shli (shapeCast _ (andi (Host.shrsi (broadcastInDim S5120x5x4x4 ![0, 1, 2, 3]
    bcast_S5120x5x1x4_S5120x5x4x4_0_1_2_3 (shapeCast _ (extractStridedSlice S5120x5x4 ![0, 0, 8] (extractStridedSlice
    S5120x5x12 ![0, 0, 96] (extui 32 b natLt_8_32) slices_S5120x5x110_S5120x5x12_0_0_96)
    slices_S5120x5x12_S5120x5x4_0_0_8) shapeCasts_S5120x5x4_S5120x5x1x4)) (broadcastInDim S5120x5x4x4 ![0, 1, 2, 3]
    bcast_S1x1x4x1_S5120x5x4x4_0_1_2_3 (broadcastInDim S1x1x4x1 ![2, 3] bcast_S4x1_S1x1x4x1_2_3 (broadcastInDim S4x1
    ![0] bcast_S4_S4x1_0 (muli (broadcastInDim S4 ![] bcast_S_S4 (constantI S_ 32 2#32)) (iotaInDim S4 32 0))))))
    (broadcastInDim S5120x5x4x4 ![] bcast_S_S5120x5x4x4 (constantI S_ 32 3#32))) shapeCasts_S5120x5x4x4_S5120x5x16)
    (broadcastInDim S5120x5x16 ![] bcast_S_S5120x5x16 (constantI S_ 32 4#32)))) (broadcastInDim S5120x5x16 ![]
    bcast_S_S5120x5x16 (constantI S_ 32 32#32)))

/-- The fields less 4. -/
def levels (b : Vec Ideal S5120x5x110 .i8) : FVec Ideal S5120x5x2x4x32 .bf16 :=
  sitofp .bf16 (subi (addi (andi (Host.shrsi (broadcastInDim S5120x5x2x4x32 ![0, 1, 2, 3, 4]
    bcast_S5120x5x2x1x32_S5120x5x2x4x32_0_1_2_3_4 (shapeCast _ (extractStridedSlice S5120x5x64 ![0, 0, 32] (extui 32 b
    natLt_8_32) slices_S5120x5x110_S5120x5x64_0_0_32) shapeCasts_S5120x5x64_S5120x5x2x1x32)) (broadcastInDim
    S5120x5x2x4x32 ![0, 1, 2, 3, 4] bcast_S1x1x1x4x1_S5120x5x2x4x32_0_1_2_3_4 (broadcastInDim S1x1x1x4x1 ![3, 4]
    bcast_S4x1_S1x1x1x4x1_3_4 (muli (broadcastInDim S4x1 ![] bcast_S_S4x1 (constantI S_ 32 2#32)) (broadcastInDim S4x1
    ![0] bcast_S4_S4x1_0 (iotaInDim S4 32 0)))))) (broadcastInDim S5120x5x2x4x32 ![] bcast_S_S5120x5x2x4x32 (constantI
    S_ 32 3#32))) (muli (broadcastInDim S5120x5x2x4x32 ![] bcast_S_S5120x5x2x4x32 (constantI S_ 32 4#32)) (andi
    (Host.shrsi (broadcastInDim S5120x5x2x4x32 ![0, 1, 2, 3, 4] bcast_S5120x5x1x1x32_S5120x5x2x4x32_0_1_2_3_4
    (shapeCast _ (extractStridedSlice S5120x5x32 ![0, 0, 0] (extui 32 b natLt_8_32)
    slices_S5120x5x110_S5120x5x32_0_0_0) shapeCasts_S5120x5x32_S5120x5x1x1x32)) (broadcastInDim S5120x5x2x4x32 ![0, 1,
    2, 3, 4] bcast_S1x1x2x4x1_S5120x5x2x4x32_0_1_2_3_4 (broadcastInDim S1x1x2x4x1 ![2, 3, 4]
    bcast_S2x4x1_S1x1x2x4x1_2_3_4 (addi (broadcastInDim S2x4x1 ![0, 1, 2] bcast_S2x1x1_S2x4x1_0_1_2 (muli
    (broadcastInDim S2x1x1 ![] bcast_S_S2x1x1 (constantI S_ 32 4#32)) (broadcastInDim S2x1x1 ![0] bcast_S2_S2x1x1_0
    (iotaInDim S2 32 0)))) (broadcastInDim S2x4x1 ![0, 1, 2] bcast_S1x4x1_S2x4x1_0_1_2 (broadcastInDim S1x4x1 ![1, 2]
    bcast_S4x1_S1x4x1_1_2 (broadcastInDim S4x1 ![0] bcast_S4_S4x1_0 (iotaInDim S4 32 0)))))))) (broadcastInDim
    S5120x5x2x4x32 ![] bcast_S_S5120x5x2x4x32 (constantI S_ 32 1#32))))) (broadcastInDim S5120x5x2x4x32 ![]
    bcast_S_S5120x5x2x4x32 (constantI S_ 32 4#32)))

/-- The weight matrix. -/
def weights (b : Vec Ideal S5120x5x110 .i8) : FVec Ideal S5120x1280 .bf16 :=
  shapeCast _ (mulf (shapeCast _ (levels b) shapeCasts_S5120x5x2x4x32_S5120x5x16x16) (broadcastInDim S5120x5x16x16
    ![0, 1, 2, 3] bcast_S5120x5x16x1_S5120x5x16x16_0_1_2_3 (shapeCast _ (truncf .bf16 (mulf (broadcastInDim S5120x5x16
    ![0, 1, 2] bcast_S5120x5x1_S5120x5x16_0_1_2 (halves b)) (groupScales b)) bitsLt_bf16_f32)
    shapeCasts_S5120x5x16_S5120x5x16x1))) shapeCasts_S5120x5x16x16_S5120x1280

/-- The reference's result of the activations and the bytes. -/
def product (a : FVec Ideal S3x640x1280 .bf16) (b : Vec Ideal S5120x5x110 .i8) : FVec Ideal S1920x5120 .bf16 :=
  shapeCast _ (truncf .bf16 (Host.dotGeneral dot_S3x640x1280_S5120x1280_S3x640x5120_2_1_01_0_n_n none a (weights b))
    bitsLt_bf16_f32) shapeCasts_S3x640x5120_S1920x5120

theorem res_eq (m : (ℓ : Loc nD τ sig) → Buf (Elt Ideal) ℓ) (c : Dev nD) :
    Value.res_main_v120 (F := Ideal) m c
      = product (m ((c.tc : Thread nD τ).loc main_arg0)) (m ((c.tc : Thread nD τ).loc main_arg1)) := rfl

/-! ## The stages at an index -/

/-- A block's bytes for one output row. -/
def bytesOf (b : Vec Ideal S5120x5x110 .i8) (o : Fin 5120) (n : Fin 5) : Fin 110 → BitVec 8 := fun a => b (ix3 o n a)

theorem halves_apply (b : Vec Ideal S5120x5x110 .i8) (o : Fin 5120) (n : Fin 5) :
    halves b (ix3 o n 0) = Half.half (bytesOf b o n 108) (bytesOf b o n 109) := by
  have h : ∀ w : IVec S5120x5x1 32, halfOf w (ix3 o n 0) = Half.viaFormula (w (ix3 o n 0)) := fun w => rfl
  have hw : halfWord b (ix3 o n 0) = IntOp.ori ((b (ix3 o n 108)).setWidth 32) (IntOp.shli .host ((b (ix3 o n 109)).setWidth 32) 8#32) := by
    unfold halfWord
    pointwise
  rw [halves, h, hw, Half.viaFormula_eq (Half.toNat_word .host _ _) (Half.num_lt _ _)]
  exact (Half.half_eq _ _).symm

theorem muli_ofNat (a b : ℕ) : IntOp.muli (BitVec.ofNat 32 a) (BitVec.ofNat 32 b) = BitVec.ofNat 32 (a * b) :=
  (BitVec.ofNat_mul a b).symm

theorem addi_ofNat (a b : ℕ) : IntOp.addi (BitVec.ofNat 32 a) (BitVec.ofNat 32 b) = BitVec.ofNat 32 (a + b) :=
  (BitVec.ofNat_add a b).symm

theorem groupScales_apply (b : Vec Ideal S5120x5x110 .i8) (o : Fin 5120) (n : Fin 5) (i : Fin 16) :
    groupScales b (ix3 o n i) = ((Weight.groupScale (bytesOf b o n) i : ℝ) : EReal) := by
  unfold groupScales
  pointwise
  refine congrArg (fun z : ℤ => ((z : ℝ) : EReal)) (Weight.toInt_parts _ _ _ _ ?_ ?_ (Nat.mod_lt _ (by decide)) (Nat.mod_lt _ (by decide)) _)
  · rw [muli_ofNat, Weight.toNat_bits _ _ _ 4 (by omega) 15#32 rfl]
    exact Weight.digit (bytesOf b o n) _ _ rfl _ _ _ 16 (pow_mul 2 4 _) rfl
  · rw [muli_ofNat, Weight.toNat_bits _ _ _ 2 (by omega) 3#32 rfl]
    exact Weight.digit (bytesOf b o n) _ _ (by omega) _ _ _ 4 (pow_mul 2 2 _) rfl

/-- A field less 4 from its two parts' words. -/
theorem toInt_field (lo hi : BitVec 32) (a b : ℕ) (ha : lo.toNat = a) (hb : hi.toNat = b) (ha' : a < 4) (hb' : b < 2) :
    (IntOp.subi (IntOp.addi lo (IntOp.muli 4#32 hi)) 4#32).toInt = ((a + 4 * b : ℕ) : ℤ) - 4 := by
  have key : ∀ a : Fin 4, ∀ b : Fin 2, (IntOp.subi (IntOp.addi (BitVec.ofNat 32 a.val) (IntOp.muli 4#32 (BitVec.ofNat 32 b.val))) 4#32).toInt
      = ((a.val + 4 * b.val : ℕ) : ℤ) - 4 := by decide +kernel
  have e1 : lo = BitVec.ofNat 32 a := BitVec.eq_of_toNat_eq (by rw [ha, BitVec.toNat_ofNat]; omega)
  have e2 : hi = BitVec.ofNat 32 b := BitVec.eq_of_toNat_eq (by rw [hb, BitVec.toNat_ofNat]; omega)
  rw [e1, e2]
  exact key ⟨a, ha'⟩ ⟨b, hb'⟩

theorem levels_apply (b : Vec Ideal S5120x5x110 .i8) (o : Fin 5120) (n : Fin 5) (h : Fin 2) (j : Fin 4) (p : Fin 32) (r : Fin 256)
    (hr : r.val = 128 * h.val + 32 * j.val + p.val) :
    levels b (ix5 o n h j p) = ((Weight.level (bytesOf b o n) r : ℝ) : EReal) := by
  unfold levels
  pointwise
  refine congrArg (fun z : ℤ => ((z : ℝ) : EReal)) (toInt_field _ _ _ _ ?_ ?_ (Nat.mod_lt _ (by decide)) (Nat.mod_lt _ (by decide)))
  · rw [muli_ofNat, Weight.toNat_bits _ _ _ 2 (by omega) 3#32 rfl]
    exact Weight.digit (bytesOf b o n) _ _ (by omega) _ _ _ 4 ((pow_mul 2 2 _).trans (congrArg _ (by omega))) rfl
  · rw [muli_ofNat, addi_ofNat, Weight.toNat_bits _ _ _ 1 (by omega) 1#32 rfl]
    exact Weight.digit (bytesOf b o n) _ _ (by omega) _ _ _ 2 (congrArg _ (by omega)) rfl

theorem weights_apply (b : Vec Ideal S5120x5x110 .i8) (o : Fin 5120) (k : Fin 1280) :
    weights b (ix2 o k) = Weight.weight (bytesOf b o ⟨k.val / 256, by omega⟩) ⟨k.val % 256, Nat.mod_lt _ (by decide)⟩ := by
  unfold weights
  pointwise
  unfold Weight.weight Weight.scale
  refine congrArg₂ (· * ·) (levels_apply b o _ _ _ _ _ (by dsimp only; omega)) (congrArg₂ (· * ·) (halves_apply b o _) ?_)
  refine (groupScales_apply b o _ _).trans (congrArg (fun i => ((Weight.groupScale _ i : ℝ) : EReal)) (Fin.ext ?_))
  dsimp only; omega

theorem product_apply (a : FVec Ideal S3x640x1280 .bf16) (b : Vec Ideal S5120x5x110 .i8) (r : Fin 1920) (o : Fin 5120) :
    product a b (ix2 r o) = Weight.result a b r o := by
  unfold product
  pointwise
  exact Finset.sum_congr rfl fun k _ => congrArg _ (weights_apply b o k)

end Cert.Ref
-- ==== Proof.Out.lean ====
/- What one grid point leaves in its block of the result: the product of the staged activations with the weights of the
   staged bytes. -/
module

public import proofs.«01_k».proof.Proof.Tile
public import proofs.«01_k».proof.Proof.Gen.KernelIdeal.Value
public import Idealize.ShloMosaic.Lib.Pipeline.ValueKit

@[expose] public section

set_option maxRecDepth 16384

noncomputable section

namespace Cert.Out

open Cert.KernelIdeal Cert.KernelIdeal.Gen Idealize.ShloMosaic Idealize.ShloMosaic.TcCoe Idealize.SL.Sem
open Cert.Tile

variable {F : FTy → Type} [FloatOps F]
variable (c : Dev nD) (i : grid0.Coords) (arg1 : Memref sig .tc .vmem S1920x1280 .bf16) (harg1 : arg1.IsWhole)
  (arg2 : Memref sig .tc .vmem S5x110x512 .i8) (harg2 : arg2.IsWhole) (arg3 : Memref sig .tc .vmem S1920x512 .bf16) (harg3 : arg3.IsWhole)
  (arg4 : Memref sig .tc .vmem S1280x512 .bf16) (harg4 : arg4.IsWhole) (arg5 : Memref sig .tc .vmem S16x512 .f32) (harg5 : arg5.IsWhole)

/-- The forty stores cover the scratch. -/
theorem covered (x : Vec F S5x110x512 .i8) (y : S1280x512.Idx) :
    ∃ p ∈ kernelRun0_A.sl.HS0_40 c arg2 harg2 arg5 x, y ∈ p.1.set :=
  View.cover_of_tiledL (kernelRun0_A.sl.HS0_40 c arg2 harg2 arg5 x) ![32, 512] (by sl_kernel_rfl) y

/-- The whole scratch, read back after the forty stores, holds the weights. -/
theorem scratch_eq (x : Vec F S5x110x512 .i8) :
    (kernelRun0_A.sl.v1932 c arg2 harg2 arg4 arg5 x : Vec F S1280x512 .bf16) = weights x := by
  unfold kernelRun0_A.sl.v1932
  rw [View.readCov_eq_canon']
  funext y
  have e : (Rect.unit (s := S1280x512) ![0, 0] S1280x512.size inb_S1280x512_S1280x512_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  show View.canon _ ((Rect.unit (s := S1280x512) ![0, 0] S1280x512.size inb_S1280x512_S1280x512_0_0).toLoadRect.idx y) = _
  rw [e, ← List.append_nil (kernelRun0_A.sl.HS0_40 c arg2 harg2 arg5 x)]
  exact View.canon_append_of_piecesOf _ _ _ (pieces c arg2 harg2 arg5 x) y (covered c arg2 harg2 arg5 x y)

/-- The block a point leaves: activations times weights, rounded to bf16. -/
theorem out_eq (x0 : Vec F S1920x1280 .bf16) (x1 : Vec F S5x110x512 .i8) :
    out0_A_2 c i arg1 harg1 arg2 harg2 arg3 harg3 arg4 harg4 arg5 harg5 x0 x1
      = truncf .bf16 (matmul dot_S1920x1280_S1280x512_S1920x512_1_0_0_1_n_n none x0 (weights x1) (constant S1920x512 .f32 0x00000000#32)) bitsLt_bf16_f32 := by
  unfold out0_A_2
  rw [View.read_writes_junk_eq_canon]
  have e : (kernelRun0_A c i arg1 harg1 arg2 harg2 arg3 harg3 arg4 harg4 arg5 harg5 x0 x1).1
      = [⟨Rect.unit (s := S1920x512) ![0, 0] ![1920, 512] inb_S1920x512_S1920x512_0_0,
          k0_pay151 (View.readAt (Elt F) arg1.view (Rect.unit (s := S1920x1280) ![0, 0] ![1920, 1280] inb_S1920x1280_S1920x1280_0_0).toLoadRect (harg1.unread x0))
            (kernelRun0_A.sl.v1932 c arg2 harg2 arg4 arg5 x1)⟩] := by
    unfold kernelRun0_A; rfl
  rw [e, scratch_eq]
  frame_out
  simp only [k0_pay151, shapeCast_self]

end Cert.Out

end
-- ==== Proof.Whole.lean ====
/- The kernel's whole result at the ideal values: every grid point's block is a sum of activations times weights over
   the arguments themselves, and the ten blocks of 512 columns make up the array. -/
module

public import proofs.«01_k».proof.Proof.Out
public import proofs.«01_k».proof.Proof.Weight
public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.Whole

open Cert.KernelIdeal Cert.KernelIdeal.Gen Idealize.ShloMosaic Idealize.ShloMosaic.TcCoe Idealize.SL.Sem

variable (m : (ℓ : Loc nD τ sig) → Buf (Elt Ideal) ℓ) (c : Dev nD)

/-- The activations the launch was given. -/
def acts : FVec Ideal S3x640x1280 .bf16 := m ((c : Thread nD τ).loc main_arg0)

/-- The packed weight bytes the launch was given. -/
def packed : Vec Ideal S5120x5x110 .i8 := m ((c : Thread nD τ).loc main_arg1)

/-- Where the windows stand at each grid point: the activations whole, the bytes and the result at block `t` of columns. -/
theorem places : ∀ t : Fin cfg0.N, win0_0.index t = ![0, 0] ∧ win0_1.index t = ![0, 0, t.val] ∧ win0_2.index t = ![0, t.val] := by
  decide +kernel

/-- The activations a grid point reads. -/
theorem acts_apply (t : Fin cfg0.N) (r : Fin 1920) (k : Fin 1280) :
    (iblk m c 0 t : Vec Ideal S1920x1280 .bf16) (ix2 r k)
      = acts m c (ix3 ⟨r.val / 640, by omega⟩ ⟨r.val % 640, Nat.mod_lt _ (by decide)⟩ k) := by
  unfold acts
  blk_ext! [iblk, V, places t]

/-- The bytes a grid point reads. -/
theorem packed_apply (t : Fin cfg0.N) (b : Fin 5) (n : Fin 110) (l : Fin 512) :
    (iblk m c 1 t : Vec Ideal S5x110x512 .i8) (ix3 b n l)
      = packed m c (ix3 ⟨512 * t.val + l.val, by have := t.isLt; have : cfg0.N = 10 := rfl; omega⟩ b n) := by
  unfold packed
  blk_ext! [iblk, V, places t]

/-- A block's product, one element. -/
theorem dot_apply (x : FVec Ideal S1920x1280 .bf16) (w : FVec Ideal S1280x512 .bf16) (r : Fin 1920) (l : Fin 512) :
    (truncf .bf16 (matmul dot_S1920x1280_S1280x512_S1920x512_1_0_0_1_n_n none x w (constant S1920x512 .f32 0x00000000#32)) bitsLt_bf16_f32
      : FVec Ideal S1920x512 .bf16) (ix2 r l) = ∑ k : Fin 1280, x (ix2 r k) * w (ix2 k l) := by
  pointwise

/-- The block a grid point leaves, one element: the result at that row, in the point's 512 columns. -/
theorem block_apply (t : Fin cfg0.N) (r : Fin 1920) (l : Fin 512) :
    (truncf .bf16 (matmul (F := Ideal) (φ₁ := .bf16) (φ₂ := .bf16) dot_S1920x1280_S1280x512_S1920x512_1_0_0_1_n_n none (iblk m c 0 t) (Tile.weights (iblk m c 1 t))
      (constant S1920x512 .f32 0x00000000#32)) bitsLt_bf16_f32 : FVec Ideal S1920x512 .bf16) (ix2 r l)
      = Weight.result (acts m c) (packed m c) r ⟨512 * t.val + l.val, by have := t.isLt; have : cfg0.N = 10 := rfl; omega⟩ := by
  refine (dot_apply (iblk m c 0 t) (Tile.weights (iblk m c 1 t)) r l).trans ?_
  refine Finset.sum_congr rfl fun k _ => congrArg₂ (· * ·) (acts_apply m c t r k) ?_
  refine (Weight.weights_apply _ k l).trans (congrArg (fun y => Weight.weight y _) ?_)
  exact funext fun n => packed_apply m c t _ n l

/-- The whole result. -/
theorem array_eq : (dats m 0 c).arrAt 2 cfg0.N = fun i : S1920x5120.Idx => Weight.result (acts m c) (packed m c) (i 0) (i 1) := by
  refine (dats m 0 c).arrAt_eq_of_covers 2 _ (by decide +kernel) fun t hf y => ?_
  blk_simp
  rw [after0_2]
  unfold outsAt0
  rw [Out.out_eq]
  have e : (y : S1920x512.Idx) = ix2 (y 0) (y 1) := eq_ix2 y
  refine (congrArg _ e).trans ((block_apply m c t (y 0) (y 1)).trans ?_)
  refine congrArg₂ (Weight.result (acts m c) (packed m c)) (Fin.ext ?_) (Fin.ext ?_)
  · blk_simp [places t]
  · blk_simp [places t]
    show 512 * t.val + (y 1).val = t.val * 512 + (y 1).val
    omega

end Cert.Whole

end
-- ==== Proof.lean ====
/- The certificate's claims, put together: the three programs run and leave their arguments alone, the kernel's rewrites
   are the ones its rules allow, and the kernel and the reference leave the same array. -/
module

public import proofs.«01_k».proof.Defs
public import proofs.«01_k».proof.Proof.Ref
public import proofs.«01_k».proof.Proof.Whole
public import Idealize.ShloMosaic.Lib.Bf16Pair
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import Idealize.ShloMosaic.Adequacy
public import Idealize.ShloMosaic.Init

@[expose] public section

noncomputable section

namespace Cert.Proof

open Idealize.ShloMosaic Idealize.SL.Sem Cert.Kernel

/-- At the ideal values the kernel and the reference leave the same array, whatever the arguments hold: each element is
    the sum over the 1280 inputs of activation times weight. -/
theorem same (m : (ℓ : Loc Cert.KernelIdeal.nD Cert.KernelIdeal.τ Cert.KernelIdeal.sig) → Buf (Elt Ideal) ℓ) (c : Dev Cert.KernelIdeal.nD) :
    (Cert.Ref.product (Cert.Whole.acts m c) (Cert.Whole.packed m c) : Cert.KernelIdeal.S1920x5120.Idx → EReal)
      = (Cert.KernelIdeal.Gen.dats m 0 c).arrAt 2 Cert.KernelIdeal.cfg0.N := by
  rw [Cert.Whole.array_eq]
  exact funext fun i => (congrArg _ (eq_ix2 i)).trans (Cert.Ref.product_apply _ _ (i 0) (i 1))

/-- Everything claimed. The reference has no semaphores, so its counters end at zero. -/
theorem claim : Cert.Claim := by
  refine ⟨Cert.Kernel.Gen.facts, Cert.KernelIdeal.Gen.facts, Cert.ReferenceIdeal.Gen.facts,
    fun m g _ => Cert.Kernel.Gen.frame m g, fun m g _ => Cert.KernelIdeal.Gen.frame m g,
    fun m g _ => (θ_run _ _ _).mono (fun r h => ⟨fun c => (h c).2, sem_eq_zero_of_no_sems rfl r.2⟩) (Cert.ReferenceIdeal.Value.run m g),
    ⟨IdealRules.bf16_pair.statement _ _, IdealRules.bf16_pack.statement _⟩, ?_⟩
  intro m g m' g' _ ha
  refine ⟨fun c => (Cert.KernelIdeal.Gen.dats m 0 c).arrAt 2 Cert.KernelIdeal.cfg0.N,
    Cert.KernelIdeal.Value.run_blocks m g,
    (θ_run _ _ _).mono (fun r h c => ⟨(h c).1.trans ?_, (h c).2⟩) (Cert.ReferenceIdeal.Value.run m' g')⟩
  rw [Cert.Ref.res_eq, (ha c).1, (ha c).2]
  exact same m c

end Cert.Proof

end
